-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x64 : Shape := ⟨2, ![131072, 64]⟩
abbrev S56x2048 : Shape := ⟨2, ![56, 2048]⟩
abbrev S2000 : Shape := ⟨1, ![2000]⟩
abbrev S_ : Shape := ⟨0, ![]⟩
abbrev S2048 : Shape := ⟨1, ![2048]⟩
abbrev S65536x128 : Shape := ⟨2, ![65536, 128]⟩
abbrev S1x2048 : Shape := ⟨2, ![1, 2048]⟩
abbrev S56x56x2000 : Shape := ⟨3, ![56, 56, 2000]⟩
abbrev S16384x128 : Shape := ⟨2, ![16384, 128]⟩
abbrev S56x512 : Shape := ⟨2, ![56, 512]⟩
abbrev S1x512 : Shape := ⟨2, ![1, 512]⟩
abbrev S56x56x512 : Shape := ⟨3, ![56, 56, 512]⟩
abbrev S8704x128 : Shape := ⟨2, ![8704, 128]⟩
abbrev S2x128x128 : Shape := ⟨3, ![2, 128, 128]⟩
abbrev S4x56x128 : Shape := ⟨3, ![4, 56, 128]⟩
abbrev S32x128 : Shape := ⟨2, ![32, 128]⟩
abbrev S128x128 : Shape := ⟨2, ![128, 128]⟩
abbrev S48x128 : Shape := ⟨2, ![48, 128]⟩
abbrev S192x128 : Shape := ⟨2, ![192, 128]⟩
abbrev S192x256 : Shape := ⟨2, ![192, 256]⟩
abbrev S256x256 : Shape := ⟨2, ![256, 256]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1x128x128 : Shape := ⟨3, ![1, 128, 128]⟩
abbrev S56x128 : Shape := ⟨2, ![56, 128]⟩
abbrev S24x128 : Shape := ⟨2, ![24, 128]⟩
abbrev S1x56x128 : Shape := ⟨3, ![1, 56, 128]⟩
abbrev S1x32x128 : Shape := ⟨3, ![1, 32, 128]⟩
abbrev S1x24x128 : Shape := ⟨3, ![1, 24, 128]⟩
abbrev S2000x56x56 : Shape := ⟨3, ![2000, 56, 56]⟩

abbrev nBuf : Space → Nat
  | .hbm => 15
  | .vmem => 16
  | .smem => 0
  | _ => 0

abbrev bufTy : (tb : Table) → Fin (tcTables nBuf tb) → BufTy
  | .hbm, ⟨0, _⟩ => ⟨S131072x64, .i32⟩
  | .hbm, ⟨1, _⟩ => ⟨S56x2048, .f32⟩
  | .hbm, ⟨2, _⟩ => ⟨S2000, .i32⟩
  | .hbm, ⟨3, _⟩ => ⟨S2000, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S65536x128, .i32⟩
  | .hbm, ⟨11, _⟩ => ⟨S1x2048, .i32⟩
  | .hbm, ⟨12, _⟩ => ⟨S1x2048, .i32⟩
  | .hbm, ⟨13, _⟩ => ⟨S56x56x2000, .f32⟩
  | .hbm, ⟨14, _⟩ => ⟨S2000x56x56, .f32⟩
  | .local _ .vmem, ⟨0, _⟩ => ⟨S16384x128, .i32⟩
  | .local _ .vmem, ⟨1, _⟩ => ⟨S16384x128, .i32⟩
  | .local _ .vmem, ⟨2, _⟩ => ⟨S56x512, .f32⟩
  | .local _ .vmem, ⟨3, _⟩ => ⟨S56x512, .f32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S56x56x512, .f32⟩
  | .local _ .vmem, ⟨9, _⟩ => ⟨S56x56x512, .f32⟩
  | .local _ .vmem, ⟨10, _⟩ => ⟨S8704x128, .f32⟩
  | .local _ .vmem, ⟨11, _⟩ => ⟨S8704x128, .f32⟩
  | .local _ .vmem, ⟨12, _⟩ => ⟨S2x128x128, .f32⟩
  | .local _ .vmem, ⟨13, _⟩ => ⟨S4x56x128, .f32⟩
  | .local _ .vmem, ⟨14, _⟩ => ⟨S4x56x128, .f32⟩
  | .local _ .vmem, ⟨15, _⟩ => ⟨S4x56x128, .f32⟩
  | _, _ => ⟨S131072x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c128_i32 : BitVec 32 := 128#32
  let v11 : BitVec 32 := Scalar.addi c0_i32 c128_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_74 : BitVec 32 := 128#32
  let v135 : BitVec 32 := Scalar.muli arg12 c128_i32_74
  v135
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_74 : BitVec 32 := 128#32
  let v135 : BitVec 32 := Scalar.muli arg12 c128_i32_74
  let v136 : BitVec 32 := v135
  let v137 : Index := Scalar.indexCast v136
  let c0_75 : Index := 0#32
  ![v137.toNat, 0]
def k0_off2 (k0_t1 : Fin k0_t1_loop.trips) (c0_i32_77 : BitVec 32) : Fin 2 → Nat :=
  let c0_i32 : BitVec 32 := 0#32
  let c1_i32 : BitVec 32 := 1#32
  let arg12 : BitVec 32 := Scf.iv c0_i32 c1_i32 k0_t1
  let v157 : BitVec 32 := Scalar.addi c0_i32_77 arg12
  let v158 : Index := Scalar.indexCast v157
  let c0_78 : Index := 0#32
  ![v158.toNat, 0]
def k0_off3 (k0_t1 : Fin k0_t1_loop.trips) : Fin 3 → Nat :=
  let c0_84 : Index := 0#32
  let c0_i32 : BitVec 32 := 0#32
  let c1_i32 : BitVec 32 := 1#32
  let arg12 : BitVec 32 := Scf.iv c0_i32 c1_i32 k0_t1
  let v184 : Index := Scalar.indexCast arg12
  let c0_85 : Index := 0#32
  ![0, v184.toNat, 0]
def k0_off4 (k0_t1 : Fin k0_t1_loop.trips) : Fin 3 → Nat :=
  let c1_108 : Index := 1#32
  let c0_i32 : BitVec 32 := 0#32
  let c1_i32 : BitVec 32 := 1#32
  let arg12 : BitVec 32 := Scf.iv c0_i32 c1_i32 k0_t1
  let v285 : Index := Scalar.indexCast arg12
  let c0_109 : Index := 0#32
  ![1, v285.toNat, 0]
@[reducible] def k0_t2_loop : Scf.Loop 32 :=
  let c0_i32_71 : BitVec 32 := 0#32
  let c56_i32 : BitVec 32 := 56#32
  let v134 : BitVec 32 := Scalar.addi c0_i32_71 c56_i32
  let c1_i32_72 : BitVec 32 := 1#32
  ⟨c0_i32_71, v134, c1_i32_72⟩
def k0_mult2 (k0_t2 : Fin k0_t2_loop.trips) : BitVec 32 :=
  let c0_i32_71 : BitVec 32 := 0#32
  let c1_i32_72 : BitVec 32 := 1#32
  let arg12 : BitVec 32 := Scf.iv c0_i32_71 c1_i32_72 k0_t2
  let c136_i32 : BitVec 32 := 136#32
  let v135 : BitVec 32 := Scalar.muli arg12 c136_i32
  v135
def k0_off5 (k0_t2 : Fin k0_t2_loop.trips) : Fin 2 → Nat :=
  let c0_i32_71 : BitVec 32 := 0#32
  let c1_i32_72 : BitVec 32 := 1#32
  let arg12 : BitVec 32 := Scf.iv c0_i32_71 c1_i32_72 k0_t2
  let c136_i32 : BitVec 32 := 136#32
  let v135 : BitVec 32 := Scalar.muli arg12 c136_i32
  let v136 : BitVec 32 := v135
  let v137 : Index := Scalar.indexCast v136
  let c0_74 : Index := 0#32
  ![v137.toNat, 0]
def k0_off6 (k0_t2 : Fin k0_t2_loop.trips) : Fin 3 → Nat :=
  let c0_75 : Index := 0#32
  let c0_i32_71 : BitVec 32 := 0#32
  let c1_i32_72 : BitVec 32 := 1#32
  let arg12 : BitVec 32 := Scf.iv c0_i32_71 c1_i32_72 k0_t2
  let v141 : Index := Scalar.indexCast arg12
  let c0_76 : Index := 0#32
  ![0, v141.toNat, 0]
def k0_off7 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v170 : Index := Scalar.indexCast arg12
  let c0_93 : Index := 0#32
  let c0_94 : Index := 0#32
  ![v170.toNat, 0, 0]
def k0_off8 (k0_t2 : Fin k0_t2_loop.trips) : Fin 3 → Nat :=
  let c1_95 : Index := 1#32
  let c0_i32_71 : BitVec 32 := 0#32
  let c1_i32_72 : BitVec 32 := 1#32
  let arg12 : BitVec 32 := Scf.iv c0_i32_71 c1_i32_72 k0_t2
  let v175 : Index := Scalar.indexCast arg12
  let c0_96 : Index := 0#32
  ![1, v175.toNat, 0]
def k0_off9 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v204 : Index := Scalar.indexCast arg12
  let c0_113 : Index := 0#32
  let c128_114 : Index := 128#32
  ![v204.toNat, 0, 128]
def k0_off10 (k0_t2 : Fin k0_t2_loop.trips) : Fin 3 → Nat :=
  let c2_115 : Index := 2#32
  let c0_i32_71 : BitVec 32 := 0#32
  let c1_i32_72 : BitVec 32 := 1#32
  let arg12 : BitVec 32 := Scf.iv c0_i32_71 c1_i32_72 k0_t2
  let v209 : Index := Scalar.indexCast arg12
  let c0_116 : Index := 0#32
  ![2, v209.toNat, 0]
def k0_off11 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v238 : Index := Scalar.indexCast arg12
  let c0_133 : Index := 0#32
  let c256_134 : Index := 256#32
  ![v238.toNat, 0, 256]
def k0_off12 (k0_t2 : Fin k0_t2_loop.trips) : Fin 3 → Nat :=
  let c3_135 : Index := 3#32
  let c0_i32_71 : BitVec 32 := 0#32
  let c1_i32_72 : BitVec 32 := 1#32
  let arg12 : BitVec 32 := Scf.iv c0_i32_71 c1_i32_72 k0_t2
  let v243 : Index := Scalar.indexCast arg12
  let c0_136 : Index := 0#32
  ![3, v243.toNat, 0]
def k0_off13 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v272 : Index := Scalar.indexCast arg12
  let c0_153 : Index := 0#32
  let c384_154 : Index := 384#32
  ![v272.toNat, 0, 384]
def k0_off14 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v309 : Index := Scalar.indexCast arg12
  let c32_173 : Index := 32#32
  let c0_174 : Index := 0#32
  ![v309.toNat, 32, 0]
def k0_off15 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v343 : Index := Scalar.indexCast arg12
  let c32_193 : Index := 32#32
  let c128_194 : Index := 128#32
  ![v343.toNat, 32, 128]
def k0_off16 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v377 : Index := Scalar.indexCast arg12
  let c32_213 : Index := 32#32
  let c256_214 : Index := 256#32
  ![v377.toNat, 32, 256]
def k0_off17 (k0_t2 : Fin k0_t2_loop.trips) : Fin 3 → Nat :=
  let c0_i32_71 : BitVec 32 := 0#32
  let c1_i32_72 : BitVec 32 := 1#32
  let arg12 : BitVec 32 := Scf.iv c0_i32_71 c1_i32_72 k0_t2
  let v411 : Index := Scalar.indexCast arg12
  let c32_233 : Index := 32#32
  let c384_234 : Index := 384#32
  ![v411.toNat, 32, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16384x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x56x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S131072x64 : Shape := ⟨2, ![131072, 64]⟩
abbrev S56x2048 : Shape := ⟨2, ![56, 2048]⟩
abbrev S2000 : Shape := ⟨1, ![2000]⟩
abbrev S4x128x4x32x2x64 : Shape := ⟨6, ![4, 128, 4, 32, 2, 64]⟩
abbrev S4x4x128x2x32x64 : Shape := ⟨6, ![4, 4, 128, 2, 32, 64]⟩
abbrev S2048x64x64 : Shape := ⟨3, ![2048, 64, 64]⟩
abbrev S2000x56x48 : Shape := ⟨3, ![2000, 56, 48]⟩
abbrev S2000x56x48x1 : Shape := ⟨4, ![2000, 56, 48, 1]⟩
abbrev S2000x56x48x4 : Shape := ⟨4, ![2000, 56, 48, 4]⟩
abbrev S4 : Shape := ⟨1, ![4]⟩
abbrev S_ : Shape := ⟨0, ![]⟩
abbrev S2000x56x192 : Shape := ⟨3, ![2000, 56, 192]⟩
abbrev S2048x56 : Shape := ⟨2, ![2048, 56]⟩
abbrev S2000x56 : Shape := ⟨2, ![2000, 56]⟩
abbrev S2000x56x56 : Shape := ⟨3, ![2000, 56, 56]⟩
abbrev S2000x56x1 : Shape := ⟨3, ![2000, 56, 1]⟩
abbrev S2000x1x56 : Shape := ⟨3, ![2000, 1, 56]⟩
abbrev S56 : Shape := ⟨1, ![56]⟩
abbrev S1x56 : Shape := ⟨2, ![1, 56]⟩
abbrev S2000x1 : Shape := ⟨2, ![2000, 1]⟩

abbrev nBuf : Space → Nat
  | .hbm => 74
  | .vmem => 0
  | .smem => 0
  | _ => 0

abbrev bufTy : (tb : Table) → Fin (tcTables nBuf tb) → BufTy
  | .hbm, ⟨0, _⟩ => ⟨S131072x64, .i32⟩
  | .hbm, ⟨1, _⟩ => ⟨S56x2048, .f32⟩
  | .hbm, ⟨2, _⟩ => ⟨S2000, .i32⟩
  | .hbm, ⟨3, _⟩ => ⟨S2000, .i32⟩
  | .hbm, ⟨4, _⟩ => ⟨S4x128x4x32x2x64, .i32⟩
  | .hbm, ⟨5, _⟩ => ⟨S4x4x128x2x32x64, .i32⟩
  | .hbm, ⟨6, _⟩ => ⟨S2048x64x64, .i32⟩
  | .hbm, ⟨7, _⟩ => ⟨S2000x56x48, .i32⟩
  | .hbm, ⟨8, _⟩ => ⟨S2000x56x48x1, .i32⟩
  | .hbm, ⟨9, _⟩ => ⟨S2000x56x48x4, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S2000x56x48x4, .i32⟩
  | .hbm, ⟨18, _⟩ => ⟨S2000x56x48x4, .i32⟩
  | .hbm, ⟨19, _⟩ => ⟨S_, .i32⟩
  | .hbm, ⟨20, _⟩ => ⟨S2000x56x48x4, .i32⟩
  | .hbm, ⟨21, _⟩ => ⟨S2000x56x48x4, .i32⟩
  | .hbm, ⟨22, _⟩ => ⟨S2000x56x192, .i32⟩
  | .hbm, ⟨23, _⟩ => ⟨S2048x56, .f32⟩
  | .hbm, ⟨24, _⟩ => ⟨S2000x56, .f32⟩
  | .hbm, ⟨25, _⟩ => ⟨S2000x56x192, .f32⟩
  | .hbm, ⟨26, _⟩ => ⟨S2000x56x192, .f32⟩
  | .hbm, ⟨27, _⟩ => ⟨S_, .f32⟩
  | .hbm, ⟨28, _⟩ => ⟨S2000x56, .f32⟩
  | .hbm, ⟨29, _⟩ => ⟨S2000x56x192, .bf16⟩
  | .hbm, ⟨30, _⟩ => ⟨S2000x56x56, .f32⟩
  | .hbm, ⟨31, _⟩ => ⟨S2000x56, .f32⟩
  | .hbm, ⟨32, _⟩ => ⟨S2000x56, .f32⟩
  | .hbm, ⟨33, _⟩ => ⟨S_, .f32⟩
  | .hbm, ⟨34, _⟩ => ⟨S2000x56, .f32⟩
  | .hbm, ⟨35, _⟩ => ⟨S2000x56, .f32⟩
  | .hbm, ⟨36, _⟩ => ⟨S2000x56x1, .f32⟩
  | .hbm, ⟨37, _⟩ => ⟨S2000x1x56, .f32⟩
  | .hbm, ⟨38, _⟩ => ⟨S2000x56x56, .f32⟩
  | .hbm, ⟨39, _⟩ => ⟨S2000x56x56, .f32⟩
  | .hbm, ⟨40, _⟩ => ⟨S2000x56x56, .f32⟩
  | .hbm, ⟨41, _⟩ => ⟨S2000x56x1, .f32⟩
  | .hbm, ⟨42, _⟩ => ⟨S2000x1x56, .f32⟩
  | .hbm, ⟨43, _⟩ => ⟨S2000x56x56, .f32⟩
  | .hbm, ⟨44, _⟩ => ⟨S2000x56x56, .f32⟩
  | .hbm, ⟨45, _⟩ => ⟨S2000x56x56, .f32⟩
  | .hbm, ⟨46, _⟩ => ⟨S2000x56x56, .f32⟩
  | .hbm, ⟨47, _⟩ => ⟨S2000x56x56, .f32⟩
  | .hbm, ⟨48, _⟩ => ⟨S56, .i32⟩
  | .hbm, ⟨49, _⟩ => ⟨S1x56, .i32⟩
  | .hbm, ⟨50, _⟩ => ⟨S2000x1, .i32⟩
  | .hbm, ⟨51, _⟩ => ⟨S2000x56, .i32⟩
  | .hbm, ⟨52, _⟩ => ⟨S2000x56, .i32⟩
  | .hbm, ⟨53, _⟩ => ⟨S2000x56, .i1⟩
  | .hbm, ⟨54, _⟩ => ⟨S1x56, .i32⟩
  | .hbm, ⟨55, _⟩ => ⟨S2000x1, .i32⟩
  | .hbm, ⟨56, _⟩ => ⟨S2000x56, .i32⟩
  | .hbm, ⟨57, _⟩ => ⟨S2000x56, .i32⟩
  | .hbm, ⟨58, _⟩ => ⟨S2000x56, .i1⟩
  | .hbm, ⟨59, _⟩ => ⟨S2000x56x1, .i1⟩
  | .hbm, ⟨60, _⟩ => ⟨S2000x1x56, .i1⟩
  | .hbm, ⟨61, _⟩ => ⟨S2000x56x56, .i1⟩
  | .hbm, ⟨62, _⟩ => ⟨S2000x56x56, .i1⟩
  | .hbm, ⟨63, _⟩ => ⟨S2000x56x56, .i1⟩
  | .hbm, ⟨64, _⟩ => ⟨S2000x56x1, .i1⟩
  | .hbm, ⟨65, _⟩ => ⟨S2000x1x56, .i1⟩
  | .hbm, ⟨66, _⟩ => ⟨S2000x56x56, .i1⟩
  | .hbm, ⟨67, _⟩ => ⟨S2000x56x56, .i1⟩
  | .hbm, ⟨68, _⟩ => ⟨S2000x56x56, .i1⟩
  | .hbm, ⟨69, _⟩ => ⟨S2000x56x56, .i1⟩
  | .hbm, ⟨70, _⟩ => ⟨S_, .f32⟩
  | .hbm, ⟨71, _⟩ => ⟨S_, .f32⟩
  | .hbm, ⟨72, _⟩ => ⟨S2000x56x56, .f32⟩
  | .hbm, ⟨73, _⟩ => ⟨S2000x56x56, .f32⟩
  | _, _ => ⟨S131072x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_3 : Ref sig .tc := ⟨.hbm, 70, rfl⟩
abbrev main_call0_v0 : Ref sig .tc := ⟨.hbm, 71, rfl⟩
abbrev main_call0_v1 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== Proof.K.Trip.lean ====
/-
  The first counted loop of the kernel body: one trip takes the 128 x 128 block of words of group `k`, forms the
  256 x 256 table of inner products and stores, row by row of the pitch-136 planes, the tiles the second loop reads, and
  two rows of norms. A trip is run once at a symbolic `k`; the invariant is the list of the pieces stored so far.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The pieces trip `k` stores into the first plane, the last store first; `v` is the block of words the trip reads. -/
def L6 (v : Vec F S128x128 .i32) (k : Fin k0_t1_loop.trips) : List (View.Piece (Elt F) S8704x128 .f32) :=
  [⟨⟨(⟨k0_off2 k 7616#32, S8x128.size, ![136, 1], (k0_off2_inb k 7)⟩ : LoadRect S8704x128), spos_136_1⟩, k0_pay20 k0_pay51 k0_pay52 k0_pay53 (k0_pay1 v) (k0_pay13 (k0_pay1 v)) (k0_pay14 (k0_pay1 v)) (k0_pay15 (k0_pay1 v))⟩,
    ⟨⟨(⟨k0_off2 k 6528#32, S8x128.size, ![136, 1], (k0_off2_inb k 6)⟩ : LoadRect S8704x128), spos_136_1⟩, k0_pay19 k0_pay51 k0_pay52 k0_pay53 (k0_pay1 v) (k0_pay13 (k0_pay1 v)) (k0_pay14 (k0_pay1 v)) (k0_pay15 (k0_pay1 v))⟩,
    ⟨⟨(⟨k0_off2 k 5440#32, S8x128.size, ![136, 1], (k0_off2_inb k 5)⟩ : LoadRect S8704x128), spos_136_1⟩, k0_pay18 k0_pay51 k0_pay52 k0_pay53 (k0_pay1 v) (k0_pay13 (k0_pay1 v)) (k0_pay14 (k0_pay1 v)) (k0_pay15 (k0_pay1 v))⟩,
    ⟨⟨(⟨k0_off2 k 4352#32, S8x128.size, ![136, 1], (k0_off2_inb k 4)⟩ : LoadRect S8704x128), spos_136_1⟩, k0_pay17 k0_pay51 k0_pay52 k0_pay53 (k0_pay1 v) (k0_pay13 (k0_pay1 v)) (k0_pay14 (k0_pay1 v)) (k0_pay15 (k0_pay1 v))⟩,
    ⟨⟨(⟨k0_off2 k 3264#32, S8x128.size, ![136, 1], (k0_off2_inb k 3)⟩ : LoadRect S8704x128), spos_136_1⟩, k0_pay6 k0_pay51 k0_pay52 k0_pay53 v⟩,
    ⟨⟨(⟨k0_off2 k 2176#32, S8x128.size, ![136, 1], (k0_off2_inb k 2)⟩ : LoadRect S8704x128), spos_136_1⟩, k0_pay5 k0_pay51 k0_pay52 k0_pay53 v⟩,
    ⟨⟨(⟨k0_off2 k 1088#32, S8x128.size, ![136, 1], (k0_off2_inb k 1)⟩ : LoadRect S8704x128), spos_136_1⟩, k0_pay4 k0_pay51 k0_pay52 k0_pay53 v⟩,
    ⟨⟨(⟨k0_off2 k 0#32, S8x128.size, ![136, 1], (k0_off2_inb k 0)⟩ : LoadRect S8704x128), spos_136_1⟩, k0_pay3 k0_pay51 k0_pay52 k0_pay53 v⟩]

/-- The pieces trip `k` stores into the second plane. -/
def L7 (v : Vec F S128x128 .i32) (k : Fin k0_t1_loop.trips) : List (View.Piece (Elt F) S8704x128 .f32) :=
  [⟨⟨(⟨k0_off2 k 7616#32, S8x128.size, ![136, 1], (k0_off2_inb k 7)⟩ : LoadRect S8704x128), spos_136_1⟩, k0_pay56 (k0_pay21 k0_pay51 k0_pay52 k0_pay53 (k0_pay1 v))⟩,
    ⟨⟨(⟨k0_off2 k 6528#32, S8x128.size, ![136, 1], (k0_off2_inb k 6)⟩ : LoadRect S8704x128), spos_136_1⟩, k0_pay55 (k0_pay21 k0_pay51 k0_pay52 k0_pay53 (k0_pay1 v))⟩,
    ⟨⟨(⟨k0_off2 k 5440#32, S8x128.size, ![136, 1], (k0_off2_inb k 5)⟩ : LoadRect S8704x128), spos_136_1⟩, k0_pay54 (k0_pay23 k0_pay51 k0_pay52 k0_pay53 (k0_pay1 v))⟩,
    ⟨⟨(⟨k0_off2 k 4352#32, S8x128.size, ![136, 1], (k0_off2_inb k 4)⟩ : LoadRect S8704x128), spos_136_1⟩, k0_pay22 k0_pay51 k0_pay52 k0_pay53 (k0_pay1 v)⟩,
    ⟨⟨(⟨k0_off2 k 3264#32, S8x128.size, ![136, 1], (k0_off2_inb k 3)⟩ : LoadRect S8704x128), spos_136_1⟩, k0_pay12 k0_pay51 k0_pay52 k0_pay53 (k0_pay1 v)⟩,
    ⟨⟨(⟨k0_off2 k 2176#32, S8x128.size, ![136, 1], (k0_off2_inb k 2)⟩ : LoadRect S8704x128), spos_136_1⟩, k0_pay11 k0_pay51 k0_pay52 k0_pay53 (k0_pay1 v)⟩,
    ⟨⟨(⟨k0_off2 k 1088#32, S8x128.size, ![136, 1], (k0_off2_inb k 1)⟩ : LoadRect S8704x128), spos_136_1⟩, k0_pay10 k0_pay51 k0_pay52 k0_pay53 (k0_pay1 v)⟩,
    ⟨⟨(⟨k0_off2 k 0#32, S8x128.size, ![136, 1], (k0_off2_inb k 0)⟩ : LoadRect S8704x128), spos_136_1⟩, k0_pay9 k0_pay51 k0_pay52 k0_pay53 (k0_pay1 v)⟩]

/-- The two rows of norms trip `k` stores. -/
def L8 (v : Vec F S128x128 .i32) (k : Fin k0_t1_loop.trips) : List (View.Piece (Elt F) S2x128x128 .f32) :=
  [⟨Rect.unit (s := S2x128x128) (k0_off4 k) S1x1x128.size (k0_off4_inb k), k0_pay57 (k0_pay21 k0_pay51 k0_pay52 k0_pay53 (k0_pay1 v))⟩,
    ⟨Rect.unit (s := S2x128x128) (k0_off3 k) S1x1x128.size (k0_off3_inb k), k0_pay7 k0_pay50 (k0_pay2 k0_pay51 k0_pay52 k0_pay53 v)⟩]

/-- The block of words trip `k` reads, of a buffer that reads `X`. -/
def blk1 (X : S16384x128.Idx → Elt F .i32) (k : Fin k0_t1_loop.trips) : Vec F S128x128 .i32 :=
  View.ld X (Rect.unit (s := S16384x128) (k0_off1 k) S128x128.size (k0_off1_inb k))

theorem trip1 (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (X1 : BufTy.Contents (Elt F) arg1.view.ty) (k : Fin k0_t1_loop.trips) (E : Set ℕ)
    (f6 : BufTy.Contents (Elt F) arg6.view.ty) (f7 : BufTy.Contents (Elt F) arg7.view.ty) (f8 : BufTy.Contents (Elt F) arg8.view.ty) :
      (iprop((arg1.view.loc (c : Thread nD τ) ↦[arg1.view.set]{fullShare} X1) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 k PUnit.unit)
          (fun _ => iprop((arg1.view.loc (c : Thread nD τ) ↦[arg1.view.set]{fullShare} X1)
            ∗ (arg6.view.loc (c : Thread nD τ) ↦[arg6.view.set]{fullShare} arg6.view.writes (Elt F) f6 (L6 (blk1 (arg1.view.read (Elt F) X1) k) k))
            ∗ (arg7.view.loc (c : Thread nD τ) ↦[arg7.view.set]{fullShare} arg7.view.writes (Elt F) f7 (L7 (blk1 (arg1.view.read (Elt F) X1) k) k))
            ∗ (arg8.view.loc (c : Thread nD τ) ↦[arg8.view.set]{fullShare} arg8.view.writes (Elt F) f8 (L8 (blk1 (arg1.view.read (Elt F) X1) k) k)))) := by
  have hk : k.val < 128 := Nat.lt_of_lt_of_le k.isLt k0_t1_abs.2.1
  unfold k0_t1_body
  iintro ⟨H1, H6, H7, H8⟩
  sl_exec
  sl_step
  isplitl [H1]; · iexact H1
  isplitl [H6]; · iexact H6
  isplitl [H7]; · iexact H7
  iexact H8

/-- The pieces of the trips before `n`, the last first, for trip pieces `L`. -/
def pb {s : Shape} (L : Fin k0_t1_loop.trips → List (View.Piece (Elt F) s .f32)) : ℕ → List (View.Piece (Elt F) s .f32)
  | 0 => []
  | n + 1 => if h : n < k0_t1_loop.trips then L ⟨n, h⟩ ++ pb L n else pb L n

theorem pb_succ {s : Shape} (L : Fin k0_t1_loop.trips → List (View.Piece (Elt F) s .f32)) (k : Fin k0_t1_loop.trips) :
    pb L (k.val + 1) = L k ++ pb L k.val := by
  rw [pb]; exact dif_pos k.isLt

/-- The pieces the trips before `n` stored into each of the three buffers, of a block of words that reads `X`. -/
abbrev pb6 (X : S16384x128.Idx → Elt F .i32) (n : ℕ) := pb (fun k => L6 (blk1 X k) k) n
abbrev pb7 (X : S16384x128.Idx → Elt F .i32) (n : ℕ) := pb (fun k => L7 (blk1 X k) k) n
abbrev pb8 (X : S16384x128.Idx → Elt F .i32) (n : ℕ) := pb (fun k => L8 (blk1 X k) k) n

set_option warn.classDefReducibility false in
/-- The first loop by its invariant: the words are read and kept; each of the three buffers holds the pieces of the
    trips before `k` written over what it held at entry. -/
@[sl_loop] def loopInv_k0_t1 (c : Dev nD) (E : Set ℕ) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (X1 : BufTy.Contents (Elt F) arg1.view.ty)
    (G6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 where
  inv := fun k _ => iprop((arg1.view.loc (c : Thread nD τ) ↦[arg1.view.set]{fullShare} X1)
      ∗ (∃ f, (arg6.view.loc (c : Thread nD τ) ↦[arg6.view.set]{fullShare} f) ∗ ⌜f = arg6.view.writes (Elt F) G6 (pb6 (arg1.view.read (Elt F) X1) k)⌝)
      ∗ (∃ f, (arg7.view.loc (c : Thread nD τ) ↦[arg7.view.set]{fullShare} f) ∗ ⌜f = arg7.view.writes (Elt F) G7 (pb7 (arg1.view.read (Elt F) X1) k)⌝)
      ∗ (∃ f, (arg8.view.loc (c : Thread nD τ) ↦[arg8.view.set]{fullShare} f) ∗ ⌜f = arg8.view.writes (Elt F) G8 (pb8 (arg1.view.read (Elt F) X1) k)⌝))
  step k acc := by
    iintro ⟨H1, ⟨%f6, H6, %h6⟩, ⟨%f7, H7, %h7⟩, ⟨%f8, H8, %h8⟩⟩
    iapply (wp_wand_r Idealize.ShloMosaic.frame (wpE (defs₀ (F := F)) Variants.none (c : Thread nD τ) none) E)
    isplitl [H1 H6 H7 H8]
    · iapply (trip1 (F := F) c i arg1 harg1 arg2 harg2 arg3 harg3 arg4 harg4 arg5 harg5 arg6 harg6 arg7 harg7 arg8 harg8 arg9 harg9 arg10 harg10 arg11 harg11 X1 k E f6 f7 f8)
      isplitl [H1]; · iexact H1
      isplitl [H6]; · iexact H6
      isplitl [H7]; · iexact H7
      iexact H8
    · iintro %_ ⟨H1, H6, H7, H8⟩
      isplitl [H1]; · iexact H1
      rw [pb6, pb7, pb8, pb_succ, pb_succ, pb_succ]
      isplitl [H6]
      · iexists _; isplitl [H6]; · iexact H6
        ipureintro; rw [h6, ← View.writes_append]
      isplitl [H7]
      · iexists _; isplitl [H7]; · iexact H7
        ipureintro; rw [h7, ← View.writes_append]
      iexists _; isplitl [H8]; · iexact H8
      ipureintro; rw [h8, ← View.writes_append]

end Cert.Proof.Kernel
end
-- ==== Proof.K.Trip2.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The square of products trip `k` reads of one of the two planes of products. -/
def sq (Y : S8704x128.Idx → Elt F .f32) (k : Fin k0_t2_loop.trips) : Vec F S128x128 .f32 :=
  View.ld Y (Rect.unit (s := S8704x128) (k0_off5 k) S128x128.size (k0_off5_inb k))

/-- One row of a table of four planes. -/
def rowOf (Y : S4x56x128.Idx → Elt F .f32) (off : Fin 3 → ℕ) (h : ∀ a, off a + S1x1x128.size a ≤ S4x56x128.size a) :
    Vec F S1x1x128 .f32 :=
  View.ld Y (Rect.unit (s := S4x56x128) off S1x1x128.size h)

/-- The pieces trip `k` of the second loop stores into the result, the last store first: `Y6` and `Y7` are the two planes
    of products, `Y9`, `Y10` and `Y11` the tables of scales, squared norms and codes. -/
def LT2 (Y6 Y7 : S8704x128.Idx → Elt F .f32) (Y9 Y10 Y11 : S4x56x128.Idx → Elt F .f32) (k : Fin k0_t2_loop.trips) :
    List (View.Piece (Elt F) S56x56x512 .f32) :=
  [⟨Rect.unit (s := S56x56x512) (k0_off17 k) S1x24x128.size (k0_off17_inb k), k0_pay75 (k0_pay46 (k0_pay33 (sq Y7 k))) (k0_pay47 (rowOf Y10 (k0_off12 k) (k0_off12_inb k))) (k0_pay48 (rowOf Y9 (k0_off12 k) (k0_off12_inb k))) (k0_pay49 (rowOf Y11 (k0_off12 k) (k0_off12_inb k))) (View.ld Y10 (Rect.unit (s := S4x56x128) ![3, 32, 0] S1x24x128.size (by decide))) (View.ld Y9 (Rect.unit (s := S4x56x128) ![3, 32, 0] S1x24x128.size (by decide))) (View.ld Y11 (Rect.unit (s := S4x56x128) ![3, 32, 0] S1x24x128.size (by decide)))⟩,
    ⟨Rect.unit (s := S56x56x512) (k0_off16 k) S1x24x128.size (k0_off16_inb k), k0_pay45 (k0_pay42 (k0_pay33 (sq Y7 k))) (k0_pay43 (rowOf Y10 (k0_off10 k) (k0_off10_inb k))) (k0_pay44 (rowOf Y9 (k0_off10 k) (k0_off10_inb k))) (rowOf Y11 (k0_off10 k) (k0_off10_inb k)) (View.ld Y10 (Rect.unit (s := S4x56x128) ![2, 32, 0] S1x24x128.size (by decide))) (View.ld Y9 (Rect.unit (s := S4x56x128) ![2, 32, 0] S1x24x128.size (by decide))) (View.ld Y11 (Rect.unit (s := S4x56x128) ![2, 32, 0] S1x24x128.size (by decide)))⟩,
    ⟨Rect.unit (s := S56x56x512) (k0_off15 k) S1x24x128.size (k0_off15_inb k), k0_pay41 (k0_pay37 (k0_pay33 (sq Y7 k))) (k0_pay38 (rowOf Y10 (k0_off8 k) (k0_off8_inb k))) (k0_pay39 (rowOf Y9 (k0_off8 k) (k0_off8_inb k))) k0_pay40 (rowOf Y11 (k0_off8 k) (k0_off8_inb k)) (View.ld Y10 (Rect.unit (s := S4x56x128) ![1, 32, 0] S1x24x128.size (by decide))) (View.ld Y9 (Rect.unit (s := S4x56x128) ![1, 32, 0] S1x24x128.size (by decide))) (View.ld Y11 (Rect.unit (s := S4x56x128) ![1, 32, 0] S1x24x128.size (by decide)))⟩,
    ⟨Rect.unit (s := S56x56x512) (k0_off14 k) S1x24x128.size (k0_off14_inb k), k0_pay36 (k0_pay34 (sq Y7 k)) (k0_pay35 (rowOf Y10 (k0_off6 k) (k0_off6_inb k))) (rowOf Y9 (k0_off6 k) (k0_off6_inb k)) (rowOf Y11 (k0_off6 k) (k0_off6_inb k)) (View.ld Y10 (Rect.unit (s := S4x56x128) ![0, 32, 0] S1x24x128.size (by decide))) (View.ld Y9 (Rect.unit (s := S4x56x128) ![0, 32, 0] S1x24x128.size (by decide))) (View.ld Y11 (Rect.unit (s := S4x56x128) ![0, 32, 0] S1x24x128.size (by decide)))⟩,
    ⟨Rect.unit (s := S56x56x512) (k0_off13 k) S1x32x128.size (k0_off13_inb k), k0_pay32 (k0_pay30 (k0_pay24 (sq Y6 k))) (k0_pay31 (rowOf Y10 (k0_off12 k) (k0_off12_inb k))) (rowOf Y9 (k0_off12 k) (k0_off12_inb k)) (rowOf Y11 (k0_off12 k) (k0_off12_inb k)) (View.ld Y10 (Rect.unit (s := S4x56x128) ![3, 0, 0] S1x32x128.size (by decide))) (View.ld Y9 (Rect.unit (s := S4x56x128) ![3, 0, 0] S1x32x128.size (by decide))) (View.ld Y11 (Rect.unit (s := S4x56x128) ![3, 0, 0] S1x32x128.size (by decide)))⟩,
    ⟨Rect.unit (s := S56x56x512) (k0_off11 k) S1x32x128.size (k0_off11_inb k), k0_pay29 (k0_pay28 (k0_pay24 (sq Y6 k))) (rowOf Y10 (k0_off10 k) (k0_off10_inb k)) (rowOf Y9 (k0_off10 k) (k0_off10_inb k)) (rowOf Y11 (k0_off10 k) (k0_off10_inb k)) (View.ld Y10 (Rect.unit (s := S4x56x128) ![2, 0, 0] S1x32x128.size (by decide))) (View.ld Y9 (Rect.unit (s := S4x56x128) ![2, 0, 0] S1x32x128.size (by decide))) (View.ld Y11 (Rect.unit (s := S4x56x128) ![2, 0, 0] S1x32x128.size (by decide)))⟩,
    ⟨Rect.unit (s := S56x56x512) (k0_off9 k) S1x32x128.size (k0_off9_inb k), k0_pay27 (k0_pay24 (sq Y6 k)) (rowOf Y10 (k0_off8 k) (k0_off8_inb k)) (rowOf Y9 (k0_off8 k) (k0_off8_inb k)) (rowOf Y11 (k0_off8 k) (k0_off8_inb k)) (View.ld Y10 (Rect.unit (s := S4x56x128) ![1, 0, 0] S1x32x128.size (by decide))) (View.ld Y9 (Rect.unit (s := S4x56x128) ![1, 0, 0] S1x32x128.size (by decide))) (View.ld Y11 (Rect.unit (s := S4x56x128) ![1, 0, 0] S1x32x128.size (by decide)))⟩,
    ⟨Rect.unit (s := S56x56x512) (k0_off7 k) S1x32x128.size (k0_off7_inb k), k0_pay26 (k0_pay25 (sq Y6 k) (rowOf Y10 (k0_off6 k) (k0_off6_inb k)) (rowOf Y9 (k0_off6 k) (k0_off6_inb k)) (rowOf Y11 (k0_off6 k) (k0_off6_inb k)) (View.ld Y10 (Rect.unit (s := S4x56x128) ![0, 0, 0] S1x32x128.size (by decide))) (View.ld Y9 (Rect.unit (s := S4x56x128) ![0, 0, 0] S1x32x128.size (by decide))) (View.ld Y11 (Rect.unit (s := S4x56x128) ![0, 0, 0] S1x32x128.size (by decide))))⟩]

theorem trip2 (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (v14 : FVec F S128x128 .f32) (v17 : FVec F S128x128 .f32) (v101 : FVec F S56x128 .f32) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty) (k : Fin k0_t2_loop.trips) (E : Set ℕ)
    (f5 : BufTy.Contents (Elt F) arg5.view.ty) :
      (iprop((arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg5.view.loc (c : Thread nD τ) ↦[arg5.view.set]{fullShare} f5)) : sProp 𝕄)
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 v14 v17 v101 k PUnit.unit)
          (fun _ => iprop((arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
            ∗ (arg5.view.loc (c : Thread nD τ) ↦[arg5.view.set]{fullShare} arg5.view.writes (Elt F) f5 (LT2 (arg6.view.read (Elt F) X6) (arg7.view.read (Elt F) X7) (arg9.view.read (Elt F) X9) (arg10.view.read (Elt F) X10) (arg11.view.read (Elt F) X11) k)))) := by
  have hk : k.val < 56 := Nat.lt_of_lt_of_le k.isLt k0_t2_abs.2.1
  unfold k0_t2_body
  iintro ⟨H6, H7, H9, H10, H11, H5⟩
  sl_exec
  sl_step
  isplitl [H6]; · iexact H6
  isplitl [H7]; · iexact H7
  isplitl [H9]; · iexact H9
  isplitl [H10]; · iexact H10
  isplitl [H11]; · iexact H11
  iexact H5

/-- The pieces of the trips before `n`, the last first. -/
def pb2 {s : Shape} (L : Fin k0_t2_loop.trips → List (View.Piece (Elt F) s .f32)) : ℕ → List (View.Piece (Elt F) s .f32)
  | 0 => []
  | n + 1 => if h : n < k0_t2_loop.trips then L ⟨n, h⟩ ++ pb2 L n else pb2 L n

theorem pb2_succ {s : Shape} (L : Fin k0_t2_loop.trips → List (View.Piece (Elt F) s .f32)) (k : Fin k0_t2_loop.trips) :
    pb2 L (k.val + 1) = L k ++ pb2 L k.val := by
  rw [pb2]; exact dif_pos k.isLt

set_option warn.classDefReducibility false in
/-- The second loop by its invariant: what it reads is kept, the result holds the pieces of the trips before `k`
    written over what it held at entry. -/
@[sl_loop] def loopInv_k0_t2 (c : Dev nD) (E : Set ℕ) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (v14 : FVec F S128x128 .f32) (v17 : FVec F S128x128 .f32) (v101 : FVec F S56x128 .f32) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty)
    (G5 : BufTy.Contents (Elt F) arg5.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v14 v17 v101 where
  inv := fun k _ => iprop((arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∃ f, (arg5.view.loc (c : Thread nD τ) ↦[arg5.view.set]{fullShare} f) ∗ ⌜f = arg5.view.writes (Elt F) G5 (pb2 (LT2 (arg6.view.read (Elt F) X6) (arg7.view.read (Elt F) X7) (arg9.view.read (Elt F) X9) (arg10.view.read (Elt F) X10) (arg11.view.read (Elt F) X11)) k)⌝))
  step k acc := by
    iintro ⟨H6, H7, H9, H10, H11, ⟨%f5, H5, %h5⟩⟩
    iapply (wp_wand_r Idealize.ShloMosaic.frame (wpE (defs₀ (F := F)) Variants.none (c : Thread nD τ) none) E)
    isplitl [H6 H7 H9 H10 H11 H5]
    · iapply (trip2 (F := F) c i arg1 harg1 arg2 harg2 arg3 harg3 arg4 harg4 arg5 harg5 arg6 harg6 arg7 harg7 arg8 harg8 arg9 harg9 arg10 harg10 arg11 harg11 v14 v17 v101 X6 X7 X9 X10 X11 k E f5)
      isplitl [H6]; · iexact H6
      isplitl [H7]; · iexact H7
      isplitl [H9]; · iexact H9
      isplitl [H10]; · iexact H10
      isplitl [H11]; · iexact H11
      iexact H5
    · iintro %_ ⟨H6, H7, H9, H10, H11, H5⟩
      isplitl [H6]; · iexact H6
      isplitl [H7]; · iexact H7
      isplitl [H9]; · iexact H9
      isplitl [H10]; · iexact H10
      isplitl [H11]; · iexact H11
      rw [pb2_succ]
      iexists _; isplitl [H5]; · iexact H5
      ipureintro; rw [h5, ← View.writes_append]

end Cert.Proof.Kernel
end
-- ==== Proof.K.Run.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.K.Trip
public import proofs.«01_k».proof.Proof.K.Trip2

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- One plane of the table of norms. -/
def nrm (Y : S2x128x128.Idx → Elt F .f32) (a : ℕ) (h : ∀ b, (![a, 0, 0] : Fin 3 → ℕ) b + S1x128x128.size b ≤ S2x128x128.size b) :
    Vec F S1x128x128 .f32 :=
  View.ld Y (Rect.unit (s := S2x128x128) ![a, 0, 0] S1x128x128.size h)

/-- The four planes of scales, of a window that reads `X`. -/
def P9 (X : S56x512.Idx → Elt F .f32) : List (View.Piece (Elt F) S4x56x128 .f32) :=
  [⟨Rect.unit (s := S4x56x128) ![3, 0, 0] S1x56x128.size inb_S4x56x128_S1x56x128_3_0_0, k0_pay72 (View.ld X (Rect.unit (s := S56x512) ![0, 384] S56x128.size inb_S56x512_S56x128_0_384))⟩,
    ⟨Rect.unit (s := S4x56x128) ![2, 0, 0] S1x56x128.size inb_S4x56x128_S1x56x128_2_0_0, k0_pay68 (View.ld X (Rect.unit (s := S56x512) ![0, 256] S56x128.size inb_S56x512_S56x128_0_256))⟩,
    ⟨Rect.unit (s := S4x56x128) ![1, 0, 0] S1x56x128.size inb_S4x56x128_S1x56x128_1_0_0, k0_pay63 (View.ld X (Rect.unit (s := S56x512) ![0, 128] S56x128.size inb_S56x512_S56x128_0_128))⟩,
    ⟨Rect.unit (s := S4x56x128) ![0, 0, 0] S1x56x128.size inb_S4x56x128_S1x56x128_0_0_0, k0_pay60 (View.ld X (Rect.unit (s := S56x512) ![0, 0] S56x128.size inb_S56x512_S56x128_0_0))⟩]

/-- The four planes of squared norms, of the window of scales `X` and the table of norms `Y`. -/
def P10 (X : S56x512.Idx → Elt F .f32) (Y : S2x128x128.Idx → Elt F .f32) : List (View.Piece (Elt F) S4x56x128 .f32) :=
  [⟨Rect.unit (s := S4x56x128) ![3, 0, 0] S1x56x128.size inb_S4x56x128_S1x56x128_3_0_0, k0_pay73 (k0_pay58 (nrm Y 0 inb_S2x128x128_S1x128x128_0_0_0)) (k0_pay59 (nrm Y 1 inb_S2x128x128_S1x128x128_1_0_0)) (View.ld X (Rect.unit (s := S56x512) ![0, 384] S56x128.size inb_S56x512_S56x128_0_384))⟩,
    ⟨Rect.unit (s := S4x56x128) ![2, 0, 0] S1x56x128.size inb_S4x56x128_S1x56x128_2_0_0, k0_pay69 (k0_pay58 (nrm Y 0 inb_S2x128x128_S1x128x128_0_0_0)) (k0_pay59 (nrm Y 1 inb_S2x128x128_S1x128x128_1_0_0)) (View.ld X (Rect.unit (s := S56x512) ![0, 256] S56x128.size inb_S56x512_S56x128_0_256))⟩,
    ⟨Rect.unit (s := S4x56x128) ![1, 0, 0] S1x56x128.size inb_S4x56x128_S1x56x128_1_0_0, k0_pay64 (k0_pay58 (nrm Y 0 inb_S2x128x128_S1x128x128_0_0_0)) (k0_pay59 (nrm Y 1 inb_S2x128x128_S1x128x128_1_0_0)) (View.ld X (Rect.unit (s := S56x512) ![0, 128] S56x128.size inb_S56x512_S56x128_0_128))⟩,
    ⟨Rect.unit (s := S4x56x128) ![0, 0, 0] S1x56x128.size inb_S4x56x128_S1x56x128_0_0_0, k0_pay61 (nrm Y 0 inb_S2x128x128_S1x128x128_0_0_0) (nrm Y 1 inb_S2x128x128_S1x128x128_1_0_0) (View.ld X (Rect.unit (s := S56x512) ![0, 0] S56x128.size inb_S56x512_S56x128_0_0))⟩]

/-- The four planes of codes (0 past the count, 2 below the count of new ones, 1 between), of the two windows of counts. -/
def P11 (U V : S1x512.Idx → Elt F .i32) : List (View.Piece (Elt F) S4x56x128 .f32) :=
  [⟨Rect.unit (s := S4x56x128) ![3, 0, 0] S1x56x128.size inb_S4x56x128_S1x56x128_3_0_0, k0_pay74 (View.ld U (Rect.unit (s := S1x512) ![0, 384] S1x128.size inb_S1x512_S1x128_0_384)) (View.ld V (Rect.unit (s := S1x512) ![0, 384] S1x128.size inb_S1x512_S1x128_0_384))⟩,
    ⟨Rect.unit (s := S4x56x128) ![2, 0, 0] S1x56x128.size inb_S4x56x128_S1x56x128_2_0_0, k0_pay71 (k0_pay70 (View.ld U (Rect.unit (s := S1x512) ![0, 256] S1x128.size inb_S1x512_S1x128_0_256)) (View.ld V (Rect.unit (s := S1x512) ![0, 256] S1x128.size inb_S1x512_S1x128_0_256)))⟩,
    ⟨Rect.unit (s := S4x56x128) ![1, 0, 0] S1x56x128.size inb_S4x56x128_S1x56x128_1_0_0, k0_pay67 (k0_pay65 (View.ld U (Rect.unit (s := S1x512) ![0, 128] S1x128.size inb_S1x512_S1x128_0_128))) (k0_pay66 (View.ld V (Rect.unit (s := S1x512) ![0, 128] S1x128.size inb_S1x512_S1x128_0_128))) (Scalar.ofBits .f32 0x40000000#32)⟩,
    ⟨Rect.unit (s := S4x56x128) ![0, 0, 0] S1x56x128.size inb_S4x56x128_S1x56x128_0_0_0, k0_pay62 (iota .tc S56x128 32 [0] iota_S56x128_d0_w32) (View.ld U (Rect.unit (s := S1x512) ![0, 0] S1x128.size inb_S1x512_S1x128_0_0)) (View.ld V (Rect.unit (s := S1x512) ![0, 0] S1x128.size inb_S1x512_S1x128_0_0))⟩]

theorem kernel_run (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄)
      ⊢ wp frame (wpE (defs₀ (F := F)) Variants.none (c : Thread nD τ) none) Set.univ (cc0_gram (F := F) i arg1 harg1 arg2 harg2 arg3 harg3 arg4 harg4 arg5 harg5 arg6 harg6 arg7 harg7 arg8 harg8 arg9 harg9 arg10 harg10 arg11 harg11)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} (arg5.view.writes (Elt F) X5 (pb2 (LT2 (arg6.view.read (Elt F) (arg6.view.writes (Elt F) X6 (pb6 (arg1.view.read (Elt F) X1) k0_t1_loop.trips))) (arg7.view.read (Elt F) (arg7.view.writes (Elt F) X7 (pb7 (arg1.view.read (Elt F) X1) k0_t1_loop.trips))) (arg9.view.read (Elt F) (arg9.view.writes (Elt F) arg9.view.junk (P9 (arg2.view.read (Elt F) X2)))) (arg10.view.read (Elt F) (arg10.view.writes (Elt F) arg10.view.junk (P10 (arg2.view.read (Elt F) X2) (arg8.view.read (Elt F) (arg8.view.writes (Elt F) arg8.view.junk (pb8 (arg1.view.read (Elt F) X1) k0_t1_loop.trips)))))) (arg11.view.read (Elt F) (arg11.view.writes (Elt F) arg11.view.junk (P11 (arg3.view.read (Elt F) X3) (arg4.view.read (Elt F) X4))))) k0_t2_loop.trips)))
            ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) := by
  simp only [cc0_gram_eq_skeleton]; unfold cc0_gram_skel
  iintro ⟨H1, H2, H3, H4, H5, H6, H7, H8, H9, H10, H11⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Proof.Kernel
end
-- ==== Proof.K.Cover.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.K.Run

@[expose] public section

set_option maxRecDepth 16384
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem trips1 : k0_t1_loop.trips = 128 := by decide +kernel
theorem trips2 : k0_t2_loop.trips = 56 := by decide +kernel

theorem ex_here {s : Shape} (y : s.Idx) (r : Rect s) (w : r.shape.Idx → Elt F .f32) (l : List (View.Piece (Elt F) s .f32))
    (h : y ∈ r.set) : ∃ q ∈ (⟨r, w⟩ : View.Piece (Elt F) s .f32) :: l, y ∈ q.1.set := ⟨_, List.mem_cons_self, h⟩

theorem ex_next {s : Shape} (y : s.Idx) (p : View.Piece (Elt F) s .f32) (l : List (View.Piece (Elt F) s .f32))
    (h : ∃ q ∈ l, y ∈ q.1.set) : ∃ q ∈ p :: l, y ∈ q.1.set := by
  obtain ⟨q, hq, hy⟩ := h; exact ⟨q, List.mem_cons_of_mem _ hq, hy⟩

theorem mem_pb {s : Shape} (L : Fin k0_t1_loop.trips → List (View.Piece (Elt F) s .f32)) (k : Fin k0_t1_loop.trips)
    (p : View.Piece (Elt F) s .f32) (hp : p ∈ L k) : ∀ n, k.val < n → p ∈ pb L n
  | 0, h => absurd h (Nat.not_lt_zero _)
  | n + 1, h => by
    rw [pb]
    by_cases hn : n < k0_t1_loop.trips
    · rw [dif_pos hn]
      rcases Nat.lt_succ_iff_lt_or_eq.mp h with h' | h'
      · exact List.mem_append_right _ (mem_pb L k p hp n h')
      · subst h'; exact List.mem_append_left _ hp
    · rw [dif_neg hn]; exact mem_pb L k p hp n (Nat.lt_of_lt_of_le k.isLt (Nat.le_of_not_lt hn))

theorem forall_pb {s : Shape} (L : Fin k0_t1_loop.trips → List (View.Piece (Elt F) s .f32))
    (Q : View.Piece (Elt F) s .f32 → Prop) (hQ : ∀ k, ∀ p ∈ L k, Q p) : ∀ n, ∀ p ∈ pb L n, Q p
  | 0, p, h => absurd h List.not_mem_nil
  | n + 1, p, h => by
    rw [pb] at h
    by_cases hn : n < k0_t1_loop.trips
    · rw [dif_pos hn] at h
      rcases List.mem_append.mp h with h | h
      · exact hQ _ p h
      · exact forall_pb L Q hQ n p h
    · rw [dif_neg hn] at h; exact forall_pb L Q hQ n p h

theorem mem_pb2 {s : Shape} (L : Fin k0_t2_loop.trips → List (View.Piece (Elt F) s .f32)) (k : Fin k0_t2_loop.trips)
    (p : View.Piece (Elt F) s .f32) (hp : p ∈ L k) : ∀ n, k.val < n → p ∈ pb2 L n
  | 0, h => absurd h (Nat.not_lt_zero _)
  | n + 1, h => by
    rw [pb2]
    by_cases hn : n < k0_t2_loop.trips
    · rw [dif_pos hn]
      rcases Nat.lt_succ_iff_lt_or_eq.mp h with h' | h'
      · exact List.mem_append_right _ (mem_pb2 L k p hp n h')
      · subst h'; exact List.mem_append_left _ hp
    · rw [dif_neg hn]; exact mem_pb2 L k p hp n (Nat.lt_of_lt_of_le k.isLt (Nat.le_of_not_lt hn))

theorem forall_pb2 {s : Shape} (L : Fin k0_t2_loop.trips → List (View.Piece (Elt F) s .f32))
    (Q : View.Piece (Elt F) s .f32 → Prop) (hQ : ∀ k, ∀ p ∈ L k, Q p) : ∀ n, ∀ p ∈ pb2 L n, Q p
  | 0, p, h => absurd h List.not_mem_nil
  | n + 1, p, h => by
    rw [pb2] at h
    by_cases hn : n < k0_t2_loop.trips
    · rw [dif_pos hn] at h
      rcases List.mem_append.mp h with h | h
      · exact hQ _ p h
      · exact forall_pb2 L Q hQ n p h
    · rw [dif_neg hn] at h; exact forall_pb2 L Q hQ n p h

/-- A place of a plane of products is in the strided rectangle of trip `k` and slab `r`. -/
theorem mem_slab (k : Fin k0_t1_loop.trips) (r : Fin 8) (off : Fin 2 → ℕ)
    (hoff : off = ![1088 * r.val + k.val, 0])
    (y : S8704x128.Idx)
    (hy : (y 0).val / 1088 = r.val) (hk : (y 0).val % 136 = k.val) :
    ∀ a, ∃ n, n < S8x128.size a ∧ (y a).val = off a + (![136, 1] : Fin 2 → ℕ) a * n := by
  subst hoff
  have h0 : (y 0).val < 8704 := (y 0).isLt
  have h1 : (y 1).val < 128 := (y 1).isLt
  intro a
  match a with
  | 0 =>
    refine ⟨(y 0).val / 136 % 8, ?_, ?_⟩
    · show _ < 8; omega
    · show (y 0).val = 1088 * r.val + k.val + 136 * _; omega
  | 1 => exact ⟨(y 1).val, h1, by show _ = 0 + 1 * _; omega⟩

theorem cov6 (X : S16384x128.Idx → Elt F .i32) (y : S8704x128.Idx) (hy : (y 0).val % 136 < 128) :
    ∃ p ∈ pb6 X k0_t1_loop.trips, y ∈ p.1.set := by
  have h0 : (y 0).val < 8704 := (y 0).isLt
  obtain ⟨k, hk⟩ : ∃ k : Fin k0_t1_loop.trips, (y 0).val % 136 = k.val := ⟨⟨(y 0).val % 136, by rw [trips1]; exact hy⟩, rfl⟩
  have key : ∃ p ∈ L6 (blk1 X k) k, y ∈ p.1.set := by
    obtain ⟨r, hr⟩ : ∃ r : Fin 8, (y 0).val / 1088 = r.val := ⟨⟨(y 0).val / 1088, by omega⟩, rfl⟩
    unfold L6
    fin_cases r
    · refine ex_next _ _ _ (ex_next _ _ _ (ex_next _ _ _ (ex_next _ _ _ (ex_next _ _ _ (ex_next _ _ _ (ex_next _ _ _ (ex_here _ _ _ _ ((LoadRect.mem_set _).mpr fun a => ?_))))))))
      exact mem_slab k 0 _ (k0_off2_eq k 0) y hr hk a
    · refine ex_next _ _ _ (ex_next _ _ _ (ex_next _ _ _ (ex_next _ _ _ (ex_next _ _ _ (ex_next _ _ _ (ex_here _ _ _ _ ((LoadRect.mem_set _).mpr fun a => ?_)))))))
      exact mem_slab k 1 _ (k0_off2_eq k 1) y hr hk a
    · refine ex_next _ _ _ (ex_next _ _ _ (ex_next _ _ _ (ex_next _ _ _ (ex_next _ _ _ (ex_here _ _ _ _ ((LoadRect.mem_set _).mpr fun a => ?_))))))
      exact mem_slab k 2 _ (k0_off2_eq k 2) y hr hk a
    · refine ex_next _ _ _ (ex_next _ _ _ (ex_next _ _ _ (ex_next _ _ _ (ex_here _ _ _ _ ((LoadRect.mem_set _).mpr fun a => ?_)))))
      exact mem_slab k 3 _ (k0_off2_eq k 3) y hr hk a
    · refine ex_next _ _ _ (ex_next _ _ _ (ex_next _ _ _ (ex_here _ _ _ _ ((LoadRect.mem_set _).mpr fun a => ?_))))
      exact mem_slab k 4 _ (k0_off2_eq k 4) y hr hk a
    · refine ex_next _ _ _ (ex_next _ _ _ (ex_here _ _ _ _ ((LoadRect.mem_set _).mpr fun a => ?_)))
      exact mem_slab k 5 _ (k0_off2_eq k 5) y hr hk a
    · refine ex_next _ _ _ (ex_here _ _ _ _ ((LoadRect.mem_set _).mpr fun a => ?_))
      exact mem_slab k 6 _ (k0_off2_eq k 6) y hr hk a
    · refine ex_here _ _ _ _ ((LoadRect.mem_set _).mpr fun a => ?_)
      exact mem_slab k 7 _ (k0_off2_eq k 7) y hr hk a
  obtain ⟨p, hp, h⟩ := key
  exact ⟨p, mem_pb (fun k => L6 (blk1 X k) k) k p hp _ k.isLt, h⟩

theorem cov7 (X : S16384x128.Idx → Elt F .i32) (y : S8704x128.Idx) (hy : (y 0).val % 136 < 128) :
    ∃ p ∈ pb7 X k0_t1_loop.trips, y ∈ p.1.set := by
  have h0 : (y 0).val < 8704 := (y 0).isLt
  obtain ⟨k, hk⟩ : ∃ k : Fin k0_t1_loop.trips, (y 0).val % 136 = k.val := ⟨⟨(y 0).val % 136, by rw [trips1]; exact hy⟩, rfl⟩
  have key : ∃ p ∈ L7 (blk1 X k) k, y ∈ p.1.set := by
    obtain ⟨r, hr⟩ : ∃ r : Fin 8, (y 0).val / 1088 = r.val := ⟨⟨(y 0).val / 1088, by omega⟩, rfl⟩
    unfold L7
    fin_cases r
    · refine ex_next _ _ _ (ex_next _ _ _ (ex_next _ _ _ (ex_next _ _ _ (ex_next _ _ _ (ex_next _ _ _ (ex_next _ _ _ (ex_here _ _ _ _ ((LoadRect.mem_set _).mpr fun a => ?_))))))))
      exact mem_slab k 0 _ (k0_off2_eq k 0) y hr hk a
    · refine ex_next _ _ _ (ex_next _ _ _ (ex_next _ _ _ (ex_next _ _ _ (ex_next _ _ _ (ex_next _ _ _ (ex_here _ _ _ _ ((LoadRect.mem_set _).mpr fun a => ?_)))))))
      exact mem_slab k 1 _ (k0_off2_eq k 1) y hr hk a
    · refine ex_next _ _ _ (ex_next _ _ _ (ex_next _ _ _ (ex_next _ _ _ (ex_next _ _ _ (ex_here _ _ _ _ ((LoadRect.mem_set _).mpr fun a => ?_))))))
      exact mem_slab k 2 _ (k0_off2_eq k 2) y hr hk a
    · refine ex_next _ _ _ (ex_next _ _ _ (ex_next _ _ _ (ex_next _ _ _ (ex_here _ _ _ _ ((LoadRect.mem_set _).mpr fun a => ?_)))))
      exact mem_slab k 3 _ (k0_off2_eq k 3) y hr hk a
    · refine ex_next _ _ _ (ex_next _ _ _ (ex_next _ _ _ (ex_here _ _ _ _ ((LoadRect.mem_set _).mpr fun a => ?_))))
      exact mem_slab k 4 _ (k0_off2_eq k 4) y hr hk a
    · refine ex_next _ _ _ (ex_next _ _ _ (ex_here _ _ _ _ ((LoadRect.mem_set _).mpr fun a => ?_)))
      exact mem_slab k 5 _ (k0_off2_eq k 5) y hr hk a
    · refine ex_next _ _ _ (ex_here _ _ _ _ ((LoadRect.mem_set _).mpr fun a => ?_))
      exact mem_slab k 6 _ (k0_off2_eq k 6) y hr hk a
    · refine ex_here _ _ _ _ ((LoadRect.mem_set _).mpr fun a => ?_)
      exact mem_slab k 7 _ (k0_off2_eq k 7) y hr hk a
  obtain ⟨p, hp, h⟩ := key
  exact ⟨p, mem_pb (fun k => L7 (blk1 X k) k) k p hp _ k.isLt, h⟩

/-- A place is in a unit rectangle of given offsets and sizes, axis by axis. -/
theorem mem_unit3 {s : Shape} (off size : Fin s.rank → ℕ) (inb : ∀ a, off a + size a ≤ s.size a) (y : s.Idx)
    (h : ∀ a, off a ≤ (y a).val ∧ (y a).val < off a + size a) : y ∈ (Rect.unit (s := s) off size inb).set :=
  Rect.mem_set_unit.mpr h

theorem cov8 (X : S16384x128.Idx → Elt F .i32) (y : S2x128x128.Idx) :
    ∃ p ∈ pb8 X k0_t1_loop.trips, y ∈ p.1.set := by
  have h0 : (y 0).val < 2 := (y 0).isLt
  have h1 : (y 1).val < 128 := (y 1).isLt
  have h2 : (y 2).val < 128 := (y 2).isLt
  obtain ⟨k, hk⟩ : ∃ k : Fin k0_t1_loop.trips, k.val = (y 1).val := ⟨⟨(y 1).val, by rw [trips1]; exact h1⟩, rfl⟩
  have key : ∃ p ∈ L8 (blk1 X k) k, y ∈ p.1.set := by
    unfold L8
    by_cases h : (y 0).val = 0
    · refine ex_next _ _ _ (ex_here _ _ _ _ (mem_unit3 _ _ _ _ fun a => ?_))
      rw [k0_off3_eq]
      match a with
      | 0 => show 0 ≤ _ ∧ _ < 0 + 1; omega
      | 1 => show k.val ≤ _ ∧ _ < k.val + 1; omega
      | 2 => show 0 ≤ _ ∧ _ < 0 + 128; omega
    · refine ex_here _ _ _ _ (mem_unit3 _ _ _ _ fun a => ?_)
      rw [k0_off4_eq]
      match a with
      | 0 => show 1 ≤ _ ∧ _ < 1 + 1; omega
      | 1 => show k.val ≤ _ ∧ _ < k.val + 1; omega
      | 2 => show 0 ≤ _ ∧ _ < 0 + 128; omega
  obtain ⟨p, hp, h⟩ := key
  exact ⟨p, mem_pb (fun k => L8 (blk1 X k) k) k p hp _ k.isLt, h⟩

/-- Four planes stored one by one cover a table of four planes. -/
theorem cov_planes (w0 w1 w2 w3 : S1x56x128.Idx → Elt F .f32) (y : S4x56x128.Idx) :
    ∃ p ∈ [(⟨Rect.unit (s := S4x56x128) ![3, 0, 0] S1x56x128.size inb_S4x56x128_S1x56x128_3_0_0, w3⟩ : View.Piece (Elt F) S4x56x128 .f32),
      ⟨Rect.unit (s := S4x56x128) ![2, 0, 0] S1x56x128.size inb_S4x56x128_S1x56x128_2_0_0, w2⟩,
      ⟨Rect.unit (s := S4x56x128) ![1, 0, 0] S1x56x128.size inb_S4x56x128_S1x56x128_1_0_0, w1⟩,
      ⟨Rect.unit (s := S4x56x128) ![0, 0, 0] S1x56x128.size inb_S4x56x128_S1x56x128_0_0_0, w0⟩], y ∈ p.1.set := by
  have h1 : (y 1).val < 56 := (y 1).isLt
  have h2 : (y 2).val < 128 := (y 2).isLt
  obtain ⟨r, hr⟩ : ∃ r : Fin 4, (y 0).val = r.val := ⟨y 0, rfl⟩
  fin_cases r
  · refine ex_next _ _ _ (ex_next _ _ _ (ex_next _ _ _ (ex_here _ _ _ _ (mem_unit3 _ _ _ _ fun a => ?_))))
    simp only at hr
    match a with
    | 0 => show 0 ≤ _ ∧ _ < 0 + 1; omega
    | 1 => show 0 ≤ _ ∧ _ < 0 + 56; omega
    | 2 => show 0 ≤ _ ∧ _ < 0 + 128; omega
  · refine ex_next _ _ _ (ex_next _ _ _ (ex_here _ _ _ _ (mem_unit3 _ _ _ _ fun a => ?_)))
    simp only at hr
    match a with
    | 0 => show 1 ≤ _ ∧ _ < 1 + 1; omega
    | 1 => show 0 ≤ _ ∧ _ < 0 + 56; omega
    | 2 => show 0 ≤ _ ∧ _ < 0 + 128; omega
  · refine ex_next _ _ _ (ex_here _ _ _ _ (mem_unit3 _ _ _ _ fun a => ?_))
    simp only at hr
    match a with
    | 0 => show 2 ≤ _ ∧ _ < 2 + 1; omega
    | 1 => show 0 ≤ _ ∧ _ < 0 + 56; omega
    | 2 => show 0 ≤ _ ∧ _ < 0 + 128; omega
  · refine ex_here _ _ _ _ (mem_unit3 _ _ _ _ fun a => ?_)
    simp only at hr
    match a with
    | 0 => show 3 ≤ _ ∧ _ < 3 + 1; omega
    | 1 => show 0 ≤ _ ∧ _ < 0 + 56; omega
    | 2 => show 0 ≤ _ ∧ _ < 0 + 128; omega

theorem covOut (Y6 Y7 : S8704x128.Idx → Elt F .f32) (Y9 Y10 Y11 : S4x56x128.Idx → Elt F .f32) (y : S56x56x512.Idx) :
    ∃ p ∈ pb2 (LT2 Y6 Y7 Y9 Y10 Y11) k0_t2_loop.trips, y ∈ p.1.set := by
  have h0 : (y 0).val < 56 := (y 0).isLt
  have h1 : (y 1).val < 56 := (y 1).isLt
  have h2 : (y 2).val < 512 := (y 2).isLt
  obtain ⟨k, hk⟩ : ∃ k : Fin k0_t2_loop.trips, k.val = (y 0).val := ⟨⟨(y 0).val, by rw [trips2]; exact h0⟩, rfl⟩
  have key : ∃ p ∈ LT2 Y6 Y7 Y9 Y10 Y11 k, y ∈ p.1.set := by
    unfold LT2
    obtain ⟨r, hr⟩ : ∃ r : Fin 4, (y 2).val / 128 = r.val := ⟨⟨(y 2).val / 128, by omega⟩, rfl⟩
    by_cases hh : (y 1).val < 32
    · fin_cases r
      · refine ex_next _ _ _ (ex_next _ _ _ (ex_next _ _ _ (ex_next _ _ _ (ex_next _ _ _ (ex_next _ _ _ (ex_next _ _ _ (ex_here _ _ _ _ (mem_unit3 _ _ _ _ fun a => ?_))))))))
        simp only at hr
        rw [k0_off7_eq]
        match a with
        | 0 => show k.val ≤ _ ∧ _ < k.val + 1; omega
        | 1 => show 0 ≤ _ ∧ _ < 0 + 32; omega
        | 2 => show 0 ≤ _ ∧ _ < 0 + 128; omega
      · refine ex_next _ _ _ (ex_next _ _ _ (ex_next _ _ _ (ex_next _ _ _ (ex_next _ _ _ (ex_next _ _ _ (ex_here _ _ _ _ (mem_unit3 _ _ _ _ fun a => ?_)))))))
        simp only at hr
        rw [k0_off9_eq]
        match a with
        | 0 => show k.val ≤ _ ∧ _ < k.val + 1; omega
        | 1 => show 0 ≤ _ ∧ _ < 0 + 32; omega
        | 2 => show 128 ≤ _ ∧ _ < 128 + 128; omega
      · refine ex_next _ _ _ (ex_next _ _ _ (ex_next _ _ _ (ex_next _ _ _ (ex_next _ _ _ (ex_here _ _ _ _ (mem_unit3 _ _ _ _ fun a => ?_))))))
        simp only at hr
        rw [k0_off11_eq]
        match a with
        | 0 => show k.val ≤ _ ∧ _ < k.val + 1; omega
        | 1 => show 0 ≤ _ ∧ _ < 0 + 32; omega
        | 2 => show 256 ≤ _ ∧ _ < 256 + 128; omega
      · refine ex_next _ _ _ (ex_next _ _ _ (ex_next _ _ _ (ex_next _ _ _ (ex_here _ _ _ _ (mem_unit3 _ _ _ _ fun a => ?_)))))
        simp only at hr
        rw [k0_off13_eq]
        match a with
        | 0 => show k.val ≤ _ ∧ _ < k.val + 1; omega
        | 1 => show 0 ≤ _ ∧ _ < 0 + 32; omega
        | 2 => show 384 ≤ _ ∧ _ < 384 + 128; omega
    · fin_cases r
      · refine ex_next _ _ _ (ex_next _ _ _ (ex_next _ _ _ (ex_here _ _ _ _ (mem_unit3 _ _ _ _ fun a => ?_))))
        simp only at hr
        rw [k0_off14_eq]
        match a with
        | 0 => show k.val ≤ _ ∧ _ < k.val + 1; omega
        | 1 => show 32 ≤ _ ∧ _ < 32 + 24; omega
        | 2 => show 0 ≤ _ ∧ _ < 0 + 128; omega
      · refine ex_next _ _ _ (ex_next _ _ _ (ex_here _ _ _ _ (mem_unit3 _ _ _ _ fun a => ?_)))
        simp only at hr
        rw [k0_off15_eq]
        match a with
        | 0 => show k.val ≤ _ ∧ _ < k.val + 1; omega
        | 1 => show 32 ≤ _ ∧ _ < 32 + 24; omega
        | 2 => show 128 ≤ _ ∧ _ < 128 + 128; omega
      · refine ex_next _ _ _ (ex_here _ _ _ _ (mem_unit3 _ _ _ _ fun a => ?_))
        simp only at hr
        rw [k0_off16_eq]
        match a with
        | 0 => show k.val ≤ _ ∧ _ < k.val + 1; omega
        | 1 => show 32 ≤ _ ∧ _ < 32 + 24; omega
        | 2 => show 256 ≤ _ ∧ _ < 256 + 128; omega
      · refine ex_here _ _ _ _ (mem_unit3 _ _ _ _ fun a => ?_)
        simp only at hr
        rw [k0_off17_eq]
        match a with
        | 0 => show k.val ≤ _ ∧ _ < k.val + 1; omega
        | 1 => show 32 ≤ _ ∧ _ < 32 + 24; omega
        | 2 => show 384 ≤ _ ∧ _ < 384 + 128; omega
  obtain ⟨p, hp, h⟩ := key
  exact ⟨p, mem_pb2 (LT2 Y6 Y7 Y9 Y10 Y11) k p hp _ k.isLt, h⟩

/-- The planes of products and the tables, as the stores leave them. -/
def T6 (X : S16384x128.Idx → Elt F .i32) : S8704x128.Idx → Elt F .f32 := View.canon (pb6 X k0_t1_loop.trips)
def T7 (X : S16384x128.Idx → Elt F .i32) : S8704x128.Idx → Elt F .f32 := View.canon (pb7 X k0_t1_loop.trips)
def T8 (X : S16384x128.Idx → Elt F .i32) : S2x128x128.Idx → Elt F .f32 := View.canon (pb8 X k0_t1_loop.trips)
def T9 (X : S56x512.Idx → Elt F .f32) : S4x56x128.Idx → Elt F .f32 := View.canon (P9 X)
def T10 (X : S56x512.Idx → Elt F .f32) (Y : S2x128x128.Idx → Elt F .f32) : S4x56x128.Idx → Elt F .f32 := View.canon (P10 X Y)
def T11 (U V : S1x512.Idx → Elt F .i32) : S4x56x128.Idx → Elt F .f32 := View.canon (P11 U V)

/-- The block the kernel writes, of the four blocks it reads. -/
def OUT (X1 : S16384x128.Idx → Elt F .i32) (X2 : S56x512.Idx → Elt F .f32) (X3 X4 : S1x512.Idx → Elt F .i32) :
    S56x56x512.Idx → Elt F .f32 :=
  View.canon (pb2 (LT2 (T6 X1) (T7 X1) (T9 X2) (T10 X2 (T8 X1)) (T11 X3 X4)) k0_t2_loop.trips)

/-- The second loop reads a plane of products only where the first has stored. -/
theorem sq_congr (Y Y' : S8704x128.Idx → Elt F .f32) (h : ∀ y, (y 0).val % 136 < 128 → Y y = Y' y) (k : Fin k0_t2_loop.trips) :
    sq Y k = sq Y' k := by
  have hk : k.val < 56 := lt_of_lt_of_eq k.isLt trips2
  funext x
  refine h _ ?_
  have hx : (x 0).val < 128 := (x 0).isLt
  show (k0_off5 k 0 + 1 * (x 0).val) % 136 < 128
  rw [k0_off5_eq]
  show (136 * k.val + 1 * (x 0).val) % 136 < 128
  omega

theorem LT2_congr (Y6 Y7 Y6' Y7' : S8704x128.Idx → Elt F .f32) (Y9 Y10 Y11 : S4x56x128.Idx → Elt F .f32)
    (h6 : ∀ y, (y 0).val % 136 < 128 → Y6 y = Y6' y) (h7 : ∀ y, (y 0).val % 136 < 128 → Y7 y = Y7' y) :
    LT2 Y6 Y7 Y9 Y10 Y11 = LT2 Y6' Y7' Y9 Y10 Y11 := by
  funext k
  unfold LT2
  rw [sq_congr Y6 Y6' h6, sq_congr Y7 Y7' h7]

theorem read_fin (arg5 : Memref sig .tc .vmem S56x56x512 .f32) (arg6 arg7 : Memref sig .tc .vmem S8704x128 .f32)
    (arg8 : Memref sig .tc .vmem S2x128x128 .f32) (arg9 arg10 arg11 : Memref sig .tc .vmem S4x56x128 .f32)
    (X5 : BufTy.Contents (Elt F) arg5.view.ty) (X6 : BufTy.Contents (Elt F) arg6.view.ty) (X7 : BufTy.Contents (Elt F) arg7.view.ty)
    (X1 : S16384x128.Idx → Elt F .i32) (X2 : S56x512.Idx → Elt F .f32) (X3 X4 : S1x512.Idx → Elt F .i32) :
    arg5.view.read (Elt F) (arg5.view.writes (Elt F) X5 (pb2 (LT2
        (arg6.view.read (Elt F) (arg6.view.writes (Elt F) X6 (pb6 X1 k0_t1_loop.trips)))
        (arg7.view.read (Elt F) (arg7.view.writes (Elt F) X7 (pb7 X1 k0_t1_loop.trips)))
        (arg9.view.read (Elt F) (arg9.view.writes (Elt F) arg9.view.junk (P9 X2)))
        (arg10.view.read (Elt F) (arg10.view.writes (Elt F) arg10.view.junk
          (P10 X2 (arg8.view.read (Elt F) (arg8.view.writes (Elt F) arg8.view.junk (pb8 X1 k0_t1_loop.trips))))))
        (arg11.view.read (Elt F) (arg11.view.writes (Elt F) arg11.view.junk (P11 X3 X4)))) k0_t2_loop.trips)) = OUT X1 X2 X3 X4 := by
  rw [View.read_writes_eq_canon arg8.view _ _ (cov8 X1),
    View.read_writes_eq_canon arg9.view _ _ (by unfold P9; exact cov_planes _ _ _ _),
    View.read_writes_eq_canon arg10.view _ _ (by unfold P10; exact cov_planes _ _ _ _),
    View.read_writes_eq_canon arg11.view _ _ (by unfold P11; exact cov_planes _ _ _ _),
    View.read_writes_eq_canon arg5.view _ _ (covOut _ _ _ _ _),
    LT2_congr _ _ (T6 X1) (T7 X1) _ _ _
      (fun y hy => View.read_writes_apply_eq_canon arg6.view _ y _ (cov6 X1 y hy))
      (fun y hy => View.read_writes_apply_eq_canon arg7.view _ y _ (cov7 X1 y hy))]
  rfl

end Cert.Proof.Kernel
end
-- ==== Proof.K.Frame.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.K.Cover

@[expose] public section

set_option maxRecDepth 16384
set_option maxHeartbeats 1000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body from owned memrefs: the four windows read are kept, the result window ends at `OUT` of what they hold, the
    scratch buffers are handed back at some contents. -/
theorem kernel_owns (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole)
    (X1 : S16384x128.Idx → Elt F .i32) (X2 : S56x512.Idx → Elt F .f32) (X3 X4 : S1x512.Idx → Elt F .i32) :
      (iprop(owns (c : Thread nD τ) arg1 fullShare X1 ∗ owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none (c : Thread nD τ) none) Set.univ (cc0_gram (F := F) i arg1 harg1 arg2 harg2 arg3 harg3 arg4 harg4 arg5 harg5 arg6 harg6 arg7 harg7 arg8 harg8 arg9 harg9 arg10 harg10 arg11 harg11)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare (OUT X1 X2 X3 X4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  unfold owns
  iintro ⟨⟨%f1, %h1, H1⟩, ⟨%f2, %h2, H2⟩, ⟨%f3, %h3, H3⟩, ⟨%f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩⟩
  iapply (wp_wand_r Idealize.ShloMosaic.frame (wpE (defs₀ (F := F)) Variants.none (c : Thread nD τ) none) Set.univ)
  isplitl [H1 H2 H3 H4 H5 H6 H7 H8 H9 H10 H11]
  · iapply (kernel_run (F := F) c i arg1 harg1 arg2 harg2 arg3 harg3 arg4 harg4 arg5 harg5 arg6 harg6 arg7 harg7 arg8 harg8 arg9 harg9 arg10 harg10 arg11 harg11 f1 f2 f3 f4 f5 f6 f7 f8 f9 f10 f11)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H1, H2, H3, H4, H5, ⟨%g6, H6⟩, ⟨%g7, H7⟩, ⟨%g8, H8⟩, ⟨%g9, H9⟩, ⟨%g10, H10⟩, ⟨%g11, H11⟩⟩
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists _; isplitr
      rotate_left
      · iexact H5
      · ipureintro; rw [h1, h2, h3, h4]; exact read_fin arg5 arg6 arg7 arg8 arg9 arg10 arg11 f5 f6 f7 X1 X2 X3 X4
    isplitl [H6]
    · iexists _; iexists g6; isplitr; · ipureintro; rfl
      iexact H6
    isplitl [H7]
    · iexists _; iexists g7; isplitr; · ipureintro; rfl
      iexact H7
    isplitl [H8]
    · iexists _; iexists g8; isplitr; · ipureintro; rfl
      iexact H8
    isplitl [H9]
    · iexists _; iexists g9; isplitr; · ipureintro; rfl
      iexact H9
    isplitl [H10]
    · iexists _; iexists g10; isplitr; · ipureintro; rfl
      iexact H10
    iexists _; iexists g11; isplitr; · ipureintro; rfl
    iexact H11

variable (m : (ℓ : Loc nD τ sig) → Buf (Elt F) ℓ) (ρ : Dev nD → PrngReg)

/-- What the four windows read hold at point `t`. -/
def in0 (c : Dev nD) (t : Fin cfg0.N) : S16384x128.Idx → Elt F .i32 := iblk m c 0 t
def in1 (c : Dev nD) (t : Fin cfg0.N) : S56x512.Idx → Elt F .f32 := iblk m c 1 t
def in2 (c : Dev nD) (t : Fin cfg0.N) : S1x512.Idx → Elt F .i32 := iblk m c 2 t
def in3 (c : Dev nD) (t : Fin cfg0.N) : S1x512.Idx → Elt F .i32 := iblk m c 3 t

/-- The block the body leaves at point `t`. -/
def outAt (c : Dev nD) (t : Fin cfg0.N) : S56x56x512.Idx → Elt F .f32 := OUT (in0 m c t) (in1 m c t) (in2 m c t) (in3 m c t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = iblk m c 3 t := by dsimp only [dats]; rfl
theorem after0_4 (c : Dev nD) (t : Fin cfg0.N) : (dats m 0 c).after 4 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq,
    after0_0, after0_1, after0_2, after0_3, after0_4]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  simp only [← owns_whole]
  iintro ⟨⟨⟨⟨%e6, S0⟩, ⟨%e7, S1⟩, ⟨%e8, S2⟩, ⟨%e9, S3⟩, ⟨%e10, S4⟩, ⟨%e11, S5⟩⟩, Hg⟩, HO, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 S0 S1 S2 S3 S4 S5]
  · iapply (kernel_owns (F := F) c _ _ _ _ _ _ _ _ _ _ _ _ _ _ _ _ _ _ _ _ _ _ _ (in0 m c t) (in1 m c t) (in2 m c t) (in3 m c t))
    isplitl [H0]; · iexact H0
    isplitl [H1]; · iexact H1
    isplitl [H2]; · iexact H2
    isplitl [H3]; · iexact H3
    isplitl [H4]; · iexists _; iexact H4
    isplitl [S0]; · iexists _; iexact S0
    isplitl [S1]; · iexists _; iexact S1
    isplitl [S2]; · iexists _; iexact S2
    isplitl [S3]; · iexists _; iexact S3
    isplitl [S4]; · iexists _; iexact S4
    iexists _; iexact S5
  · iintro %_ ⟨H0, H1, H2, H3, H4, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        iexact S5
      · iexact Hg
    isplitl [HO]; · iexact HO
    isplitl [H0]; · iexact H0
    isplitl [H1]; · iexact H1
    isplitl [H2]; · iexact H2
    isplitl [H3]; · iexact H3
    iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, from any memory with zero counters: every fair execution terminates, the arrays end at what the proof data
    compute, every other unscoped buffer as the host operations after the region leave it, every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault, the four arguments keep their contents, every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩) (run_main m ρ)

end Cert.Proof.Kernel
end
-- ==== Proof.KI.Trip.lean ====
/-
  The first counted loop of the kernel body: one trip takes the 128 x 128 block of words of group `k`, forms the
  256 x 256 table of inner products and stores, row by row of the pitch-136 planes, the tiles the second loop reads, and
  two rows of norms. A trip is run once at a symbolic `k`; the invariant is the list of the pieces stored so far.
-/
module

public import proofs.«01_k».proof.Proof.K.Trip
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The pieces trip `k` stores into the first plane, the last store first; `v` is the block of words the trip reads. -/
def L6 (v : Vec F S128x128 .i32) (k : Fin k0_t1_loop.trips) : List (View.Piece (Elt F) S8704x128 .f32) :=
  [⟨⟨(⟨k0_off2 k 7616#32, S8x128.size, ![136, 1], (k0_off2_inb k 7)⟩ : LoadRect S8704x128), spos_136_1⟩, k0_pay20 k0_pay51 k0_pay52 k0_pay53 (k0_pay1 v) (k0_pay13 (k0_pay1 v)) (k0_pay14 (k0_pay1 v)) (k0_pay15 (k0_pay1 v))⟩,
    ⟨⟨(⟨k0_off2 k 6528#32, S8x128.size, ![136, 1], (k0_off2_inb k 6)⟩ : LoadRect S8704x128), spos_136_1⟩, k0_pay19 k0_pay51 k0_pay52 k0_pay53 (k0_pay1 v) (k0_pay13 (k0_pay1 v)) (k0_pay14 (k0_pay1 v)) (k0_pay15 (k0_pay1 v))⟩,
    ⟨⟨(⟨k0_off2 k 5440#32, S8x128.size, ![136, 1], (k0_off2_inb k 5)⟩ : LoadRect S8704x128), spos_136_1⟩, k0_pay18 k0_pay51 k0_pay52 k0_pay53 (k0_pay1 v) (k0_pay13 (k0_pay1 v)) (k0_pay14 (k0_pay1 v)) (k0_pay15 (k0_pay1 v))⟩,
    ⟨⟨(⟨k0_off2 k 4352#32, S8x128.size, ![136, 1], (k0_off2_inb k 4)⟩ : LoadRect S8704x128), spos_136_1⟩, k0_pay17 k0_pay51 k0_pay52 k0_pay53 (k0_pay1 v) (k0_pay13 (k0_pay1 v)) (k0_pay14 (k0_pay1 v)) (k0_pay15 (k0_pay1 v))⟩,
    ⟨⟨(⟨k0_off2 k 3264#32, S8x128.size, ![136, 1], (k0_off2_inb k 3)⟩ : LoadRect S8704x128), spos_136_1⟩, k0_pay6 k0_pay51 k0_pay52 k0_pay53 v⟩,
    ⟨⟨(⟨k0_off2 k 2176#32, S8x128.size, ![136, 1], (k0_off2_inb k 2)⟩ : LoadRect S8704x128), spos_136_1⟩, k0_pay5 k0_pay51 k0_pay52 k0_pay53 v⟩,
    ⟨⟨(⟨k0_off2 k 1088#32, S8x128.size, ![136, 1], (k0_off2_inb k 1)⟩ : LoadRect S8704x128), spos_136_1⟩, k0_pay4 k0_pay51 k0_pay52 k0_pay53 v⟩,
    ⟨⟨(⟨k0_off2 k 0#32, S8x128.size, ![136, 1], (k0_off2_inb k 0)⟩ : LoadRect S8704x128), spos_136_1⟩, k0_pay3 k0_pay51 k0_pay52 k0_pay53 v⟩]

/-- The pieces trip `k` stores into the second plane. -/
def L7 (v : Vec F S128x128 .i32) (k : Fin k0_t1_loop.trips) : List (View.Piece (Elt F) S8704x128 .f32) :=
  [⟨⟨(⟨k0_off2 k 7616#32, S8x128.size, ![136, 1], (k0_off2_inb k 7)⟩ : LoadRect S8704x128), spos_136_1⟩, k0_pay56 (k0_pay21 k0_pay51 k0_pay52 k0_pay53 (k0_pay1 v))⟩,
    ⟨⟨(⟨k0_off2 k 6528#32, S8x128.size, ![136, 1], (k0_off2_inb k 6)⟩ : LoadRect S8704x128), spos_136_1⟩, k0_pay55 (k0_pay21 k0_pay51 k0_pay52 k0_pay53 (k0_pay1 v))⟩,
    ⟨⟨(⟨k0_off2 k 5440#32, S8x128.size, ![136, 1], (k0_off2_inb k 5)⟩ : LoadRect S8704x128), spos_136_1⟩, k0_pay54 (k0_pay23 k0_pay51 k0_pay52 k0_pay53 (k0_pay1 v))⟩,
    ⟨⟨(⟨k0_off2 k 4352#32, S8x128.size, ![136, 1], (k0_off2_inb k 4)⟩ : LoadRect S8704x128), spos_136_1⟩, k0_pay22 k0_pay51 k0_pay52 k0_pay53 (k0_pay1 v)⟩,
    ⟨⟨(⟨k0_off2 k 3264#32, S8x128.size, ![136, 1], (k0_off2_inb k 3)⟩ : LoadRect S8704x128), spos_136_1⟩, k0_pay12 k0_pay51 k0_pay52 k0_pay53 (k0_pay1 v)⟩,
    ⟨⟨(⟨k0_off2 k 2176#32, S8x128.size, ![136, 1], (k0_off2_inb k 2)⟩ : LoadRect S8704x128), spos_136_1⟩, k0_pay11 k0_pay51 k0_pay52 k0_pay53 (k0_pay1 v)⟩,
    ⟨⟨(⟨k0_off2 k 1088#32, S8x128.size, ![136, 1], (k0_off2_inb k 1)⟩ : LoadRect S8704x128), spos_136_1⟩, k0_pay10 k0_pay51 k0_pay52 k0_pay53 (k0_pay1 v)⟩,
    ⟨⟨(⟨k0_off2 k 0#32, S8x128.size, ![136, 1], (k0_off2_inb k 0)⟩ : LoadRect S8704x128), spos_136_1⟩, k0_pay9 k0_pay51 k0_pay52 k0_pay53 (k0_pay1 v)⟩]

/-- The two rows of norms trip `k` stores. -/
def L8 (v : Vec F S128x128 .i32) (k : Fin k0_t1_loop.trips) : List (View.Piece (Elt F) S2x128x128 .f32) :=
  [⟨Rect.unit (s := S2x128x128) (k0_off4 k) S1x1x128.size (k0_off4_inb k), k0_pay57 (k0_pay21 k0_pay51 k0_pay52 k0_pay53 (k0_pay1 v))⟩,
    ⟨Rect.unit (s := S2x128x128) (k0_off3 k) S1x1x128.size (k0_off3_inb k), k0_pay7 k0_pay50 (k0_pay2 k0_pay51 k0_pay52 k0_pay53 v)⟩]

/-- The block of words trip `k` reads, of a buffer that reads `X`. -/
def blk1 (X : S16384x128.Idx → Elt F .i32) (k : Fin k0_t1_loop.trips) : Vec F S128x128 .i32 :=
  View.ld X (Rect.unit (s := S16384x128) (k0_off1 k) S128x128.size (k0_off1_inb k))

theorem trip1 (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (X1 : BufTy.Contents (Elt F) arg1.view.ty) (k : Fin k0_t1_loop.trips) (E : Set ℕ)
    (f6 : BufTy.Contents (Elt F) arg6.view.ty) (f7 : BufTy.Contents (Elt F) arg7.view.ty) (f8 : BufTy.Contents (Elt F) arg8.view.ty) :
      (iprop((arg1.view.loc (c : Thread nD τ) ↦[arg1.view.set]{fullShare} X1) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 k PUnit.unit)
          (fun _ => iprop((arg1.view.loc (c : Thread nD τ) ↦[arg1.view.set]{fullShare} X1)
            ∗ (arg6.view.loc (c : Thread nD τ) ↦[arg6.view.set]{fullShare} arg6.view.writes (Elt F) f6 (L6 (blk1 (arg1.view.read (Elt F) X1) k) k))
            ∗ (arg7.view.loc (c : Thread nD τ) ↦[arg7.view.set]{fullShare} arg7.view.writes (Elt F) f7 (L7 (blk1 (arg1.view.read (Elt F) X1) k) k))
            ∗ (arg8.view.loc (c : Thread nD τ) ↦[arg8.view.set]{fullShare} arg8.view.writes (Elt F) f8 (L8 (blk1 (arg1.view.read (Elt F) X1) k) k)))) := by
  have hk : k.val < 128 := Nat.lt_of_lt_of_le k.isLt k0_t1_abs.2.1
  unfold k0_t1_body
  iintro ⟨H1, H6, H7, H8⟩
  sl_exec
  sl_step
  isplitl [H1]; · iexact H1
  isplitl [H6]; · iexact H6
  isplitl [H7]; · iexact H7
  iexact H8

/-- The pieces of the trips before `n`, the last first, for trip pieces `L`. -/
def pb {s : Shape} (L : Fin k0_t1_loop.trips → List (View.Piece (Elt F) s .f32)) : ℕ → List (View.Piece (Elt F) s .f32)
  | 0 => []
  | n + 1 => if h : n < k0_t1_loop.trips then L ⟨n, h⟩ ++ pb L n else pb L n

theorem pb_succ {s : Shape} (L : Fin k0_t1_loop.trips → List (View.Piece (Elt F) s .f32)) (k : Fin k0_t1_loop.trips) :
    pb L (k.val + 1) = L k ++ pb L k.val := by
  rw [pb]; exact dif_pos k.isLt

/-- The pieces the trips before `n` stored into each of the three buffers, of a block of words that reads `X`. -/
abbrev pb6 (X : S16384x128.Idx → Elt F .i32) (n : ℕ) := pb (fun k => L6 (blk1 X k) k) n
abbrev pb7 (X : S16384x128.Idx → Elt F .i32) (n : ℕ) := pb (fun k => L7 (blk1 X k) k) n
abbrev pb8 (X : S16384x128.Idx → Elt F .i32) (n : ℕ) := pb (fun k => L8 (blk1 X k) k) n

set_option warn.classDefReducibility false in
/-- The first loop by its invariant: the words are read and kept; each of the three buffers holds the pieces of the
    trips before `k` written over what it held at entry. -/
@[sl_loop] def loopInv_k0_t1 (c : Dev nD) (E : Set ℕ) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (X1 : BufTy.Contents (Elt F) arg1.view.ty)
    (G6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 where
  inv := fun k _ => iprop((arg1.view.loc (c : Thread nD τ) ↦[arg1.view.set]{fullShare} X1)
      ∗ (∃ f, (arg6.view.loc (c : Thread nD τ) ↦[arg6.view.set]{fullShare} f) ∗ ⌜f = arg6.view.writes (Elt F) G6 (pb6 (arg1.view.read (Elt F) X1) k)⌝)
      ∗ (∃ f, (arg7.view.loc (c : Thread nD τ) ↦[arg7.view.set]{fullShare} f) ∗ ⌜f = arg7.view.writes (Elt F) G7 (pb7 (arg1.view.read (Elt F) X1) k)⌝)
      ∗ (∃ f, (arg8.view.loc (c : Thread nD τ) ↦[arg8.view.set]{fullShare} f) ∗ ⌜f = arg8.view.writes (Elt F) G8 (pb8 (arg1.view.read (Elt F) X1) k)⌝))
  step k acc := by
    iintro ⟨H1, ⟨%f6, H6, %h6⟩, ⟨%f7, H7, %h7⟩, ⟨%f8, H8, %h8⟩⟩
    iapply (wp_wand_r Idealize.ShloMosaic.frame (wpE (defs₀ (F := F)) Variants.none (c : Thread nD τ) none) E)
    isplitl [H1 H6 H7 H8]
    · iapply (trip1 (F := F) c i arg1 harg1 arg2 harg2 arg3 harg3 arg4 harg4 arg5 harg5 arg6 harg6 arg7 harg7 arg8 harg8 arg9 harg9 arg10 harg10 arg11 harg11 X1 k E f6 f7 f8)
      isplitl [H1]; · iexact H1
      isplitl [H6]; · iexact H6
      isplitl [H7]; · iexact H7
      iexact H8
    · iintro %_ ⟨H1, H6, H7, H8⟩
      isplitl [H1]; · iexact H1
      rw [pb6, pb7, pb8, pb_succ, pb_succ, pb_succ]
      isplitl [H6]
      · iexists _; isplitl [H6]; · iexact H6
        ipureintro; rw [h6, ← View.writes_append]
      isplitl [H7]
      · iexists _; isplitl [H7]; · iexact H7
        ipureintro; rw [h7, ← View.writes_append]
      iexists _; isplitl [H8]; · iexact H8
      ipureintro; rw [h8, ← View.writes_append]

end Cert.Proof.KernelIdeal
end
-- ==== Proof.KI.Trip2.lean ====
module

public import proofs.«01_k».proof.Proof.K.Trip2
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The square of products trip `k` reads of one of the two planes of products. -/
def sq (Y : S8704x128.Idx → Elt F .f32) (k : Fin k0_t2_loop.trips) : Vec F S128x128 .f32 :=
  View.ld Y (Rect.unit (s := S8704x128) (k0_off5 k) S128x128.size (k0_off5_inb k))

/-- One row of a table of four planes. -/
def rowOf (Y : S4x56x128.Idx → Elt F .f32) (off : Fin 3 → ℕ) (h : ∀ a, off a + S1x1x128.size a ≤ S4x56x128.size a) :
    Vec F S1x1x128 .f32 :=
  View.ld Y (Rect.unit (s := S4x56x128) off S1x1x128.size h)

/-- The pieces trip `k` of the second loop stores into the result, the last store first: `Y6` and `Y7` are the two planes
    of products, `Y9`, `Y10` and `Y11` the tables of scales, squared norms and codes. -/
def LT2 (Y6 Y7 : S8704x128.Idx → Elt F .f32) (Y9 Y10 Y11 : S4x56x128.Idx → Elt F .f32) (k : Fin k0_t2_loop.trips) :
    List (View.Piece (Elt F) S56x56x512 .f32) :=
  [⟨Rect.unit (s := S56x56x512) (k0_off17 k) S1x24x128.size (k0_off17_inb k), k0_pay75 (k0_pay46 (k0_pay33 (sq Y7 k))) (k0_pay47 (rowOf Y10 (k0_off12 k) (k0_off12_inb k))) (k0_pay48 (rowOf Y9 (k0_off12 k) (k0_off12_inb k))) (k0_pay49 (rowOf Y11 (k0_off12 k) (k0_off12_inb k))) (View.ld Y10 (Rect.unit (s := S4x56x128) ![3, 32, 0] S1x24x128.size (by decide))) (View.ld Y9 (Rect.unit (s := S4x56x128) ![3, 32, 0] S1x24x128.size (by decide))) (View.ld Y11 (Rect.unit (s := S4x56x128) ![3, 32, 0] S1x24x128.size (by decide)))⟩,
    ⟨Rect.unit (s := S56x56x512) (k0_off16 k) S1x24x128.size (k0_off16_inb k), k0_pay45 (k0_pay42 (k0_pay33 (sq Y7 k))) (k0_pay43 (rowOf Y10 (k0_off10 k) (k0_off10_inb k))) (k0_pay44 (rowOf Y9 (k0_off10 k) (k0_off10_inb k))) (rowOf Y11 (k0_off10 k) (k0_off10_inb k)) (View.ld Y10 (Rect.unit (s := S4x56x128) ![2, 32, 0] S1x24x128.size (by decide))) (View.ld Y9 (Rect.unit (s := S4x56x128) ![2, 32, 0] S1x24x128.size (by decide))) (View.ld Y11 (Rect.unit (s := S4x56x128) ![2, 32, 0] S1x24x128.size (by decide)))⟩,
    ⟨Rect.unit (s := S56x56x512) (k0_off15 k) S1x24x128.size (k0_off15_inb k), k0_pay41 (k0_pay37 (k0_pay33 (sq Y7 k))) (k0_pay38 (rowOf Y10 (k0_off8 k) (k0_off8_inb k))) (k0_pay39 (rowOf Y9 (k0_off8 k) (k0_off8_inb k))) k0_pay40 (rowOf Y11 (k0_off8 k) (k0_off8_inb k)) (View.ld Y10 (Rect.unit (s := S4x56x128) ![1, 32, 0] S1x24x128.size (by decide))) (View.ld Y9 (Rect.unit (s := S4x56x128) ![1, 32, 0] S1x24x128.size (by decide))) (View.ld Y11 (Rect.unit (s := S4x56x128) ![1, 32, 0] S1x24x128.size (by decide)))⟩,
    ⟨Rect.unit (s := S56x56x512) (k0_off14 k) S1x24x128.size (k0_off14_inb k), k0_pay36 (k0_pay34 (sq Y7 k)) (k0_pay35 (rowOf Y10 (k0_off6 k) (k0_off6_inb k))) (rowOf Y9 (k0_off6 k) (k0_off6_inb k)) (rowOf Y11 (k0_off6 k) (k0_off6_inb k)) (View.ld Y10 (Rect.unit (s := S4x56x128) ![0, 32, 0] S1x24x128.size (by decide))) (View.ld Y9 (Rect.unit (s := S4x56x128) ![0, 32, 0] S1x24x128.size (by decide))) (View.ld Y11 (Rect.unit (s := S4x56x128) ![0, 32, 0] S1x24x128.size (by decide)))⟩,
    ⟨Rect.unit (s := S56x56x512) (k0_off13 k) S1x32x128.size (k0_off13_inb k), k0_pay32 (k0_pay30 (k0_pay24 (sq Y6 k))) (k0_pay31 (rowOf Y10 (k0_off12 k) (k0_off12_inb k))) (rowOf Y9 (k0_off12 k) (k0_off12_inb k)) (rowOf Y11 (k0_off12 k) (k0_off12_inb k)) (View.ld Y10 (Rect.unit (s := S4x56x128) ![3, 0, 0] S1x32x128.size (by decide))) (View.ld Y9 (Rect.unit (s := S4x56x128) ![3, 0, 0] S1x32x128.size (by decide))) (View.ld Y11 (Rect.unit (s := S4x56x128) ![3, 0, 0] S1x32x128.size (by decide)))⟩,
    ⟨Rect.unit (s := S56x56x512) (k0_off11 k) S1x32x128.size (k0_off11_inb k), k0_pay29 (k0_pay28 (k0_pay24 (sq Y6 k))) (rowOf Y10 (k0_off10 k) (k0_off10_inb k)) (rowOf Y9 (k0_off10 k) (k0_off10_inb k)) (rowOf Y11 (k0_off10 k) (k0_off10_inb k)) (View.ld Y10 (Rect.unit (s := S4x56x128) ![2, 0, 0] S1x32x128.size (by decide))) (View.ld Y9 (Rect.unit (s := S4x56x128) ![2, 0, 0] S1x32x128.size (by decide))) (View.ld Y11 (Rect.unit (s := S4x56x128) ![2, 0, 0] S1x32x128.size (by decide)))⟩,
    ⟨Rect.unit (s := S56x56x512) (k0_off9 k) S1x32x128.size (k0_off9_inb k), k0_pay27 (k0_pay24 (sq Y6 k)) (rowOf Y10 (k0_off8 k) (k0_off8_inb k)) (rowOf Y9 (k0_off8 k) (k0_off8_inb k)) (rowOf Y11 (k0_off8 k) (k0_off8_inb k)) (View.ld Y10 (Rect.unit (s := S4x56x128) ![1, 0, 0] S1x32x128.size (by decide))) (View.ld Y9 (Rect.unit (s := S4x56x128) ![1, 0, 0] S1x32x128.size (by decide))) (View.ld Y11 (Rect.unit (s := S4x56x128) ![1, 0, 0] S1x32x128.size (by decide)))⟩,
    ⟨Rect.unit (s := S56x56x512) (k0_off7 k) S1x32x128.size (k0_off7_inb k), k0_pay26 (k0_pay25 (sq Y6 k) (rowOf Y10 (k0_off6 k) (k0_off6_inb k)) (rowOf Y9 (k0_off6 k) (k0_off6_inb k)) (rowOf Y11 (k0_off6 k) (k0_off6_inb k)) (View.ld Y10 (Rect.unit (s := S4x56x128) ![0, 0, 0] S1x32x128.size (by decide))) (View.ld Y9 (Rect.unit (s := S4x56x128) ![0, 0, 0] S1x32x128.size (by decide))) (View.ld Y11 (Rect.unit (s := S4x56x128) ![0, 0, 0] S1x32x128.size (by decide))))⟩]

theorem trip2 (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (v14 : FVec F S128x128 .f32) (v17 : FVec F S128x128 .f32) (v101 : FVec F S56x128 .f32) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty) (k : Fin k0_t2_loop.trips) (E : Set ℕ)
    (f5 : BufTy.Contents (Elt F) arg5.view.ty) :
      (iprop((arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg5.view.loc (c : Thread nD τ) ↦[arg5.view.set]{fullShare} f5)) : sProp 𝕄)
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 v14 v17 v101 k PUnit.unit)
          (fun _ => iprop((arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
            ∗ (arg5.view.loc (c : Thread nD τ) ↦[arg5.view.set]{fullShare} arg5.view.writes (Elt F) f5 (LT2 (arg6.view.read (Elt F) X6) (arg7.view.read (Elt F) X7) (arg9.view.read (Elt F) X9) (arg10.view.read (Elt F) X10) (arg11.view.read (Elt F) X11) k)))) := by
  have hk : k.val < 56 := Nat.lt_of_lt_of_le k.isLt k0_t2_abs.2.1
  unfold k0_t2_body
  iintro ⟨H6, H7, H9, H10, H11, H5⟩
  sl_exec
  sl_step
  isplitl [H6]; · iexact H6
  isplitl [H7]; · iexact H7
  isplitl [H9]; · iexact H9
  isplitl [H10]; · iexact H10
  isplitl [H11]; · iexact H11
  iexact H5

/-- The pieces of the trips before `n`, the last first. -/
def pb2 {s : Shape} (L : Fin k0_t2_loop.trips → List (View.Piece (Elt F) s .f32)) : ℕ → List (View.Piece (Elt F) s .f32)
  | 0 => []
  | n + 1 => if h : n < k0_t2_loop.trips then L ⟨n, h⟩ ++ pb2 L n else pb2 L n

theorem pb2_succ {s : Shape} (L : Fin k0_t2_loop.trips → List (View.Piece (Elt F) s .f32)) (k : Fin k0_t2_loop.trips) :
    pb2 L (k.val + 1) = L k ++ pb2 L k.val := by
  rw [pb2]; exact dif_pos k.isLt

set_option warn.classDefReducibility false in
/-- The second loop by its invariant: what it reads is kept, the result holds the pieces of the trips before `k`
    written over what it held at entry. -/
@[sl_loop] def loopInv_k0_t2 (c : Dev nD) (E : Set ℕ) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (v14 : FVec F S128x128 .f32) (v17 : FVec F S128x128 .f32) (v101 : FVec F S56x128 .f32) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty)
    (G5 : BufTy.Contents (Elt F) arg5.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v14 v17 v101 where
  inv := fun k _ => iprop((arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∃ f, (arg5.view.loc (c : Thread nD τ) ↦[arg5.view.set]{fullShare} f) ∗ ⌜f = arg5.view.writes (Elt F) G5 (pb2 (LT2 (arg6.view.read (Elt F) X6) (arg7.view.read (Elt F) X7) (arg9.view.read (Elt F) X9) (arg10.view.read (Elt F) X10) (arg11.view.read (Elt F) X11)) k)⌝))
  step k acc := by
    iintro ⟨H6, H7, H9, H10, H11, ⟨%f5, H5, %h5⟩⟩
    iapply (wp_wand_r Idealize.ShloMosaic.frame (wpE (defs₀ (F := F)) Variants.none (c : Thread nD τ) none) E)
    isplitl [H6 H7 H9 H10 H11 H5]
    · iapply (trip2 (F := F) c i arg1 harg1 arg2 harg2 arg3 harg3 arg4 harg4 arg5 harg5 arg6 harg6 arg7 harg7 arg8 harg8 arg9 harg9 arg10 harg10 arg11 harg11 v14 v17 v101 X6 X7 X9 X10 X11 k E f5)
      isplitl [H6]; · iexact H6
      isplitl [H7]; · iexact H7
      isplitl [H9]; · iexact H9
      isplitl [H10]; · iexact H10
      isplitl [H11]; · iexact H11
      iexact H5
    · iintro %_ ⟨H6, H7, H9, H10, H11, H5⟩
      isplitl [H6]; · iexact H6
      isplitl [H7]; · iexact H7
      isplitl [H9]; · iexact H9
      isplitl [H10]; · iexact H10
      isplitl [H11]; · iexact H11
      rw [pb2_succ]
      iexists _; isplitl [H5]; · iexact H5
      ipureintro; rw [h5, ← View.writes_append]

end Cert.Proof.KernelIdeal
end
-- ==== Proof.KI.Run.lean ====
module

public import proofs.«01_k».proof.Proof.K.Run
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KI.Trip
public import proofs.«01_k».proof.Proof.KI.Trip2

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- One plane of the table of norms. -/
def nrm (Y : S2x128x128.Idx → Elt F .f32) (a : ℕ) (h : ∀ b, (![a, 0, 0] : Fin 3 → ℕ) b + S1x128x128.size b ≤ S2x128x128.size b) :
    Vec F S1x128x128 .f32 :=
  View.ld Y (Rect.unit (s := S2x128x128) ![a, 0, 0] S1x128x128.size h)

/-- The four planes of scales, of a window that reads `X`. -/
def P9 (X : S56x512.Idx → Elt F .f32) : List (View.Piece (Elt F) S4x56x128 .f32) :=
  [⟨Rect.unit (s := S4x56x128) ![3, 0, 0] S1x56x128.size inb_S4x56x128_S1x56x128_3_0_0, k0_pay72 (View.ld X (Rect.unit (s := S56x512) ![0, 384] S56x128.size inb_S56x512_S56x128_0_384))⟩,
    ⟨Rect.unit (s := S4x56x128) ![2, 0, 0] S1x56x128.size inb_S4x56x128_S1x56x128_2_0_0, k0_pay68 (View.ld X (Rect.unit (s := S56x512) ![0, 256] S56x128.size inb_S56x512_S56x128_0_256))⟩,
    ⟨Rect.unit (s := S4x56x128) ![1, 0, 0] S1x56x128.size inb_S4x56x128_S1x56x128_1_0_0, k0_pay63 (View.ld X (Rect.unit (s := S56x512) ![0, 128] S56x128.size inb_S56x512_S56x128_0_128))⟩,
    ⟨Rect.unit (s := S4x56x128) ![0, 0, 0] S1x56x128.size inb_S4x56x128_S1x56x128_0_0_0, k0_pay60 (View.ld X (Rect.unit (s := S56x512) ![0, 0] S56x128.size inb_S56x512_S56x128_0_0))⟩]

/-- The four planes of squared norms, of the window of scales `X` and the table of norms `Y`. -/
def P10 (X : S56x512.Idx → Elt F .f32) (Y : S2x128x128.Idx → Elt F .f32) : List (View.Piece (Elt F) S4x56x128 .f32) :=
  [⟨Rect.unit (s := S4x56x128) ![3, 0, 0] S1x56x128.size inb_S4x56x128_S1x56x128_3_0_0, k0_pay73 (k0_pay58 (nrm Y 0 inb_S2x128x128_S1x128x128_0_0_0)) (k0_pay59 (nrm Y 1 inb_S2x128x128_S1x128x128_1_0_0)) (View.ld X (Rect.unit (s := S56x512) ![0, 384] S56x128.size inb_S56x512_S56x128_0_384))⟩,
    ⟨Rect.unit (s := S4x56x128) ![2, 0, 0] S1x56x128.size inb_S4x56x128_S1x56x128_2_0_0, k0_pay69 (k0_pay58 (nrm Y 0 inb_S2x128x128_S1x128x128_0_0_0)) (k0_pay59 (nrm Y 1 inb_S2x128x128_S1x128x128_1_0_0)) (View.ld X (Rect.unit (s := S56x512) ![0, 256] S56x128.size inb_S56x512_S56x128_0_256))⟩,
    ⟨Rect.unit (s := S4x56x128) ![1, 0, 0] S1x56x128.size inb_S4x56x128_S1x56x128_1_0_0, k0_pay64 (k0_pay58 (nrm Y 0 inb_S2x128x128_S1x128x128_0_0_0)) (k0_pay59 (nrm Y 1 inb_S2x128x128_S1x128x128_1_0_0)) (View.ld X (Rect.unit (s := S56x512) ![0, 128] S56x128.size inb_S56x512_S56x128_0_128))⟩,
    ⟨Rect.unit (s := S4x56x128) ![0, 0, 0] S1x56x128.size inb_S4x56x128_S1x56x128_0_0_0, k0_pay61 (nrm Y 0 inb_S2x128x128_S1x128x128_0_0_0) (nrm Y 1 inb_S2x128x128_S1x128x128_1_0_0) (View.ld X (Rect.unit (s := S56x512) ![0, 0] S56x128.size inb_S56x512_S56x128_0_0))⟩]

/-- The four planes of codes (0 past the count, 2 below the count of new ones, 1 between), of the two windows of counts. -/
def P11 (U V : S1x512.Idx → Elt F .i32) : List (View.Piece (Elt F) S4x56x128 .f32) :=
  [⟨Rect.unit (s := S4x56x128) ![3, 0, 0] S1x56x128.size inb_S4x56x128_S1x56x128_3_0_0, k0_pay74 (View.ld U (Rect.unit (s := S1x512) ![0, 384] S1x128.size inb_S1x512_S1x128_0_384)) (View.ld V (Rect.unit (s := S1x512) ![0, 384] S1x128.size inb_S1x512_S1x128_0_384))⟩,
    ⟨Rect.unit (s := S4x56x128) ![2, 0, 0] S1x56x128.size inb_S4x56x128_S1x56x128_2_0_0, k0_pay71 (k0_pay70 (View.ld U (Rect.unit (s := S1x512) ![0, 256] S1x128.size inb_S1x512_S1x128_0_256)) (View.ld V (Rect.unit (s := S1x512) ![0, 256] S1x128.size inb_S1x512_S1x128_0_256)))⟩,
    ⟨Rect.unit (s := S4x56x128) ![1, 0, 0] S1x56x128.size inb_S4x56x128_S1x56x128_1_0_0, k0_pay67 (k0_pay65 (View.ld U (Rect.unit (s := S1x512) ![0, 128] S1x128.size inb_S1x512_S1x128_0_128))) (k0_pay66 (View.ld V (Rect.unit (s := S1x512) ![0, 128] S1x128.size inb_S1x512_S1x128_0_128))) (Scalar.ofBits .f32 0x40000000#32)⟩,
    ⟨Rect.unit (s := S4x56x128) ![0, 0, 0] S1x56x128.size inb_S4x56x128_S1x56x128_0_0_0, k0_pay62 (iota .tc S56x128 32 [0] iota_S56x128_d0_w32) (View.ld U (Rect.unit (s := S1x512) ![0, 0] S1x128.size inb_S1x512_S1x128_0_0)) (View.ld V (Rect.unit (s := S1x512) ![0, 0] S1x128.size inb_S1x512_S1x128_0_0))⟩]

theorem kernel_run (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) :
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄)
      ⊢ wp frame (wpE (defs₀ (F := F)) Variants.none (c : Thread nD τ) none) Set.univ (cc0_gram (F := F) i arg1 harg1 arg2 harg2 arg3 harg3 arg4 harg4 arg5 harg5 arg6 harg6 arg7 harg7 arg8 harg8 arg9 harg9 arg10 harg10 arg11 harg11)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} (arg5.view.writes (Elt F) X5 (pb2 (LT2 (arg6.view.read (Elt F) (arg6.view.writes (Elt F) X6 (pb6 (arg1.view.read (Elt F) X1) k0_t1_loop.trips))) (arg7.view.read (Elt F) (arg7.view.writes (Elt F) X7 (pb7 (arg1.view.read (Elt F) X1) k0_t1_loop.trips))) (arg9.view.read (Elt F) (arg9.view.writes (Elt F) arg9.view.junk (P9 (arg2.view.read (Elt F) X2)))) (arg10.view.read (Elt F) (arg10.view.writes (Elt F) arg10.view.junk (P10 (arg2.view.read (Elt F) X2) (arg8.view.read (Elt F) (arg8.view.writes (Elt F) arg8.view.junk (pb8 (arg1.view.read (Elt F) X1) k0_t1_loop.trips)))))) (arg11.view.read (Elt F) (arg11.view.writes (Elt F) arg11.view.junk (P11 (arg3.view.read (Elt F) X3) (arg4.view.read (Elt F) X4))))) k0_t2_loop.trips)))
            ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) := by
  simp only [cc0_gram_eq_skeleton]; unfold cc0_gram_skel
  iintro ⟨H1, H2, H3, H4, H5, H6, H7, H8, H9, H10, H11⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Proof.KernelIdeal
end
-- ==== Proof.KI.Cover.lean ====
module

public import proofs.«01_k».proof.Proof.K.Cover
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KI.Run

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem trips1 : k0_t1_loop.trips = 128 := by decide +kernel
theorem trips2 : k0_t2_loop.trips = 56 := by decide +kernel

theorem ex_here {s : Shape} (y : s.Idx) (r : Rect s) (w : r.shape.Idx → Elt F .f32) (l : List (View.Piece (Elt F) s .f32))
    (h : y ∈ r.set) : ∃ q ∈ (⟨r, w⟩ : View.Piece (Elt F) s .f32) :: l, y ∈ q.1.set := ⟨_, List.mem_cons_self, h⟩

theorem ex_next {s : Shape} (y : s.Idx) (p : View.Piece (Elt F) s .f32) (l : List (View.Piece (Elt F) s .f32))
    (h : ∃ q ∈ l, y ∈ q.1.set) : ∃ q ∈ p :: l, y ∈ q.1.set := by
  obtain ⟨q, hq, hy⟩ := h; exact ⟨q, List.mem_cons_of_mem _ hq, hy⟩

theorem mem_pb {s : Shape} (L : Fin k0_t1_loop.trips → List (View.Piece (Elt F) s .f32)) (k : Fin k0_t1_loop.trips)
    (p : View.Piece (Elt F) s .f32) (hp : p ∈ L k) : ∀ n, k.val < n → p ∈ pb L n
  | 0, h => absurd h (Nat.not_lt_zero _)
  | n + 1, h => by
    rw [pb]
    by_cases hn : n < k0_t1_loop.trips
    · rw [dif_pos hn]
      rcases Nat.lt_succ_iff_lt_or_eq.mp h with h' | h'
      · exact List.mem_append_right _ (mem_pb L k p hp n h')
      · subst h'; exact List.mem_append_left _ hp
    · rw [dif_neg hn]; exact mem_pb L k p hp n (Nat.lt_of_lt_of_le k.isLt (Nat.le_of_not_lt hn))

theorem forall_pb {s : Shape} (L : Fin k0_t1_loop.trips → List (View.Piece (Elt F) s .f32))
    (Q : View.Piece (Elt F) s .f32 → Prop) (hQ : ∀ k, ∀ p ∈ L k, Q p) : ∀ n, ∀ p ∈ pb L n, Q p
  | 0, p, h => absurd h List.not_mem_nil
  | n + 1, p, h => by
    rw [pb] at h
    by_cases hn : n < k0_t1_loop.trips
    · rw [dif_pos hn] at h
      rcases List.mem_append.mp h with h | h
      · exact hQ _ p h
      · exact forall_pb L Q hQ n p h
    · rw [dif_neg hn] at h; exact forall_pb L Q hQ n p h

theorem mem_pb2 {s : Shape} (L : Fin k0_t2_loop.trips → List (View.Piece (Elt F) s .f32)) (k : Fin k0_t2_loop.trips)
    (p : View.Piece (Elt F) s .f32) (hp : p ∈ L k) : ∀ n, k.val < n → p ∈ pb2 L n
  | 0, h => absurd h (Nat.not_lt_zero _)
  | n + 1, h => by
    rw [pb2]
    by_cases hn : n < k0_t2_loop.trips
    · rw [dif_pos hn]
      rcases Nat.lt_succ_iff_lt_or_eq.mp h with h' | h'
      · exact List.mem_append_right _ (mem_pb2 L k p hp n h')
      · subst h'; exact List.mem_append_left _ hp
    · rw [dif_neg hn]; exact mem_pb2 L k p hp n (Nat.lt_of_lt_of_le k.isLt (Nat.le_of_not_lt hn))

theorem forall_pb2 {s : Shape} (L : Fin k0_t2_loop.trips → List (View.Piece (Elt F) s .f32))
    (Q : View.Piece (Elt F) s .f32 → Prop) (hQ : ∀ k, ∀ p ∈ L k, Q p) : ∀ n, ∀ p ∈ pb2 L n, Q p
  | 0, p, h => absurd h List.not_mem_nil
  | n + 1, p, h => by
    rw [pb2] at h
    by_cases hn : n < k0_t2_loop.trips
    · rw [dif_pos hn] at h
      rcases List.mem_append.mp h with h | h
      · exact hQ _ p h
      · exact forall_pb2 L Q hQ n p h
    · rw [dif_neg hn] at h; exact forall_pb2 L Q hQ n p h

/-- A place of a plane of products is in the strided rectangle of trip `k` and slab `r`. -/
theorem mem_slab (k : Fin k0_t1_loop.trips) (r : Fin 8) (off : Fin 2 → ℕ)
    (hoff : off = ![1088 * r.val + k.val, 0])
    (y : S8704x128.Idx)
    (hy : (y 0).val / 1088 = r.val) (hk : (y 0).val % 136 = k.val) :
    ∀ a, ∃ n, n < S8x128.size a ∧ (y a).val = off a + (![136, 1] : Fin 2 → ℕ) a * n := by
  subst hoff
  have h0 : (y 0).val < 8704 := (y 0).isLt
  have h1 : (y 1).val < 128 := (y 1).isLt
  intro a
  match a with
  | 0 =>
    refine ⟨(y 0).val / 136 % 8, ?_, ?_⟩
    · show _ < 8; omega
    · show (y 0).val = 1088 * r.val + k.val + 136 * _; omega
  | 1 => exact ⟨(y 1).val, h1, by show _ = 0 + 1 * _; omega⟩

theorem cov6 (X : S16384x128.Idx → Elt F .i32) (y : S8704x128.Idx) (hy : (y 0).val % 136 < 128) :
    ∃ p ∈ pb6 X k0_t1_loop.trips, y ∈ p.1.set := by
  have h0 : (y 0).val < 8704 := (y 0).isLt
  obtain ⟨k, hk⟩ : ∃ k : Fin k0_t1_loop.trips, (y 0).val % 136 = k.val := ⟨⟨(y 0).val % 136, by rw [trips1]; exact hy⟩, rfl⟩
  have key : ∃ p ∈ L6 (blk1 X k) k, y ∈ p.1.set := by
    obtain ⟨r, hr⟩ : ∃ r : Fin 8, (y 0).val / 1088 = r.val := ⟨⟨(y 0).val / 1088, by omega⟩, rfl⟩
    unfold L6
    fin_cases r
    · refine ex_next _ _ _ (ex_next _ _ _ (ex_next _ _ _ (ex_next _ _ _ (ex_next _ _ _ (ex_next _ _ _ (ex_next _ _ _ (ex_here _ _ _ _ ((LoadRect.mem_set _).mpr fun a => ?_))))))))
      exact mem_slab k 0 _ (k0_off2_eq k 0) y hr hk a
    · refine ex_next _ _ _ (ex_next _ _ _ (ex_next _ _ _ (ex_next _ _ _ (ex_next _ _ _ (ex_next _ _ _ (ex_here _ _ _ _ ((LoadRect.mem_set _).mpr fun a => ?_)))))))
      exact mem_slab k 1 _ (k0_off2_eq k 1) y hr hk a
    · refine ex_next _ _ _ (ex_next _ _ _ (ex_next _ _ _ (ex_next _ _ _ (ex_next _ _ _ (ex_here _ _ _ _ ((LoadRect.mem_set _).mpr fun a => ?_))))))
      exact mem_slab k 2 _ (k0_off2_eq k 2) y hr hk a
    · refine ex_next _ _ _ (ex_next _ _ _ (ex_next _ _ _ (ex_next _ _ _ (ex_here _ _ _ _ ((LoadRect.mem_set _).mpr fun a => ?_)))))
      exact mem_slab k 3 _ (k0_off2_eq k 3) y hr hk a
    · refine ex_next _ _ _ (ex_next _ _ _ (ex_next _ _ _ (ex_here _ _ _ _ ((LoadRect.mem_set _).mpr fun a => ?_))))
      exact mem_slab k 4 _ (k0_off2_eq k 4) y hr hk a
    · refine ex_next _ _ _ (ex_next _ _ _ (ex_here _ _ _ _ ((LoadRect.mem_set _).mpr fun a => ?_)))
      exact mem_slab k 5 _ (k0_off2_eq k 5) y hr hk a
    · refine ex_next _ _ _ (ex_here _ _ _ _ ((LoadRect.mem_set _).mpr fun a => ?_))
      exact mem_slab k 6 _ (k0_off2_eq k 6) y hr hk a
    · refine ex_here _ _ _ _ ((LoadRect.mem_set _).mpr fun a => ?_)
      exact mem_slab k 7 _ (k0_off2_eq k 7) y hr hk a
  obtain ⟨p, hp, h⟩ := key
  exact ⟨p, mem_pb (fun k => L6 (blk1 X k) k) k p hp _ k.isLt, h⟩

theorem cov7 (X : S16384x128.Idx → Elt F .i32) (y : S8704x128.Idx) (hy : (y 0).val % 136 < 128) :
    ∃ p ∈ pb7 X k0_t1_loop.trips, y ∈ p.1.set := by
  have h0 : (y 0).val < 8704 := (y 0).isLt
  obtain ⟨k, hk⟩ : ∃ k : Fin k0_t1_loop.trips, (y 0).val % 136 = k.val := ⟨⟨(y 0).val % 136, by rw [trips1]; exact hy⟩, rfl⟩
  have key : ∃ p ∈ L7 (blk1 X k) k, y ∈ p.1.set := by
    obtain ⟨r, hr⟩ : ∃ r : Fin 8, (y 0).val / 1088 = r.val := ⟨⟨(y 0).val / 1088, by omega⟩, rfl⟩
    unfold L7
    fin_cases r
    · refine ex_next _ _ _ (ex_next _ _ _ (ex_next _ _ _ (ex_next _ _ _ (ex_next _ _ _ (ex_next _ _ _ (ex_next _ _ _ (ex_here _ _ _ _ ((LoadRect.mem_set _).mpr fun a => ?_))))))))
      exact mem_slab k 0 _ (k0_off2_eq k 0) y hr hk a
    · refine ex_next _ _ _ (ex_next _ _ _ (ex_next _ _ _ (ex_next _ _ _ (ex_next _ _ _ (ex_next _ _ _ (ex_here _ _ _ _ ((LoadRect.mem_set _).mpr fun a => ?_)))))))
      exact mem_slab k 1 _ (k0_off2_eq k 1) y hr hk a
    · refine ex_next _ _ _ (ex_next _ _ _ (ex_next _ _ _ (ex_next _ _ _ (ex_next _ _ _ (ex_here _ _ _ _ ((LoadRect.mem_set _).mpr fun a => ?_))))))
      exact mem_slab k 2 _ (k0_off2_eq k 2) y hr hk a
    · refine ex_next _ _ _ (ex_next _ _ _ (ex_next _ _ _ (ex_next _ _ _ (ex_here _ _ _ _ ((LoadRect.mem_set _).mpr fun a => ?_)))))
      exact mem_slab k 3 _ (k0_off2_eq k 3) y hr hk a
    · refine ex_next _ _ _ (ex_next _ _ _ (ex_next _ _ _ (ex_here _ _ _ _ ((LoadRect.mem_set _).mpr fun a => ?_))))
      exact mem_slab k 4 _ (k0_off2_eq k 4) y hr hk a
    · refine ex_next _ _ _ (ex_next _ _ _ (ex_here _ _ _ _ ((LoadRect.mem_set _).mpr fun a => ?_)))
      exact mem_slab k 5 _ (k0_off2_eq k 5) y hr hk a
    · refine ex_next _ _ _ (ex_here _ _ _ _ ((LoadRect.mem_set _).mpr fun a => ?_))
      exact mem_slab k 6 _ (k0_off2_eq k 6) y hr hk a
    · refine ex_here _ _ _ _ ((LoadRect.mem_set _).mpr fun a => ?_)
      exact mem_slab k 7 _ (k0_off2_eq k 7) y hr hk a
  obtain ⟨p, hp, h⟩ := key
  exact ⟨p, mem_pb (fun k => L7 (blk1 X k) k) k p hp _ k.isLt, h⟩

/-- A place is in a unit rectangle of given offsets and sizes, axis by axis. -/
theorem mem_unit3 {s : Shape} (off size : Fin s.rank → ℕ) (inb : ∀ a, off a + size a ≤ s.size a) (y : s.Idx)
    (h : ∀ a, off a ≤ (y a).val ∧ (y a).val < off a + size a) : y ∈ (Rect.unit (s := s) off size inb).set :=
  Rect.mem_set_unit.mpr h

theorem cov8 (X : S16384x128.Idx → Elt F .i32) (y : S2x128x128.Idx) :
    ∃ p ∈ pb8 X k0_t1_loop.trips, y ∈ p.1.set := by
  have h0 : (y 0).val < 2 := (y 0).isLt
  have h1 : (y 1).val < 128 := (y 1).isLt
  have h2 : (y 2).val < 128 := (y 2).isLt
  obtain ⟨k, hk⟩ : ∃ k : Fin k0_t1_loop.trips, k.val = (y 1).val := ⟨⟨(y 1).val, by rw [trips1]; exact h1⟩, rfl⟩
  have key : ∃ p ∈ L8 (blk1 X k) k, y ∈ p.1.set := by
    unfold L8
    by_cases h : (y 0).val = 0
    · refine ex_next _ _ _ (ex_here _ _ _ _ (mem_unit3 _ _ _ _ fun a => ?_))
      rw [k0_off3_eq]
      match a with
      | 0 => show 0 ≤ _ ∧ _ < 0 + 1; omega
      | 1 => show k.val ≤ _ ∧ _ < k.val + 1; omega
      | 2 => show 0 ≤ _ ∧ _ < 0 + 128; omega
    · refine ex_here _ _ _ _ (mem_unit3 _ _ _ _ fun a => ?_)
      rw [k0_off4_eq]
      match a with
      | 0 => show 1 ≤ _ ∧ _ < 1 + 1; omega
      | 1 => show k.val ≤ _ ∧ _ < k.val + 1; omega
      | 2 => show 0 ≤ _ ∧ _ < 0 + 128; omega
  obtain ⟨p, hp, h⟩ := key
  exact ⟨p, mem_pb (fun k => L8 (blk1 X k) k) k p hp _ k.isLt, h⟩

/-- Four planes stored one by one cover a table of four planes. -/
theorem cov_planes (w0 w1 w2 w3 : S1x56x128.Idx → Elt F .f32) (y : S4x56x128.Idx) :
    ∃ p ∈ [(⟨Rect.unit (s := S4x56x128) ![3, 0, 0] S1x56x128.size inb_S4x56x128_S1x56x128_3_0_0, w3⟩ : View.Piece (Elt F) S4x56x128 .f32),
      ⟨Rect.unit (s := S4x56x128) ![2, 0, 0] S1x56x128.size inb_S4x56x128_S1x56x128_2_0_0, w2⟩,
      ⟨Rect.unit (s := S4x56x128) ![1, 0, 0] S1x56x128.size inb_S4x56x128_S1x56x128_1_0_0, w1⟩,
      ⟨Rect.unit (s := S4x56x128) ![0, 0, 0] S1x56x128.size inb_S4x56x128_S1x56x128_0_0_0, w0⟩], y ∈ p.1.set := by
  have h1 : (y 1).val < 56 := (y 1).isLt
  have h2 : (y 2).val < 128 := (y 2).isLt
  obtain ⟨r, hr⟩ : ∃ r : Fin 4, (y 0).val = r.val := ⟨y 0, rfl⟩
  fin_cases r
  · refine ex_next _ _ _ (ex_next _ _ _ (ex_next _ _ _ (ex_here _ _ _ _ (mem_unit3 _ _ _ _ fun a => ?_))))
    simp only at hr
    match a with
    | 0 => show 0 ≤ _ ∧ _ < 0 + 1; omega
    | 1 => show 0 ≤ _ ∧ _ < 0 + 56; omega
    | 2 => show 0 ≤ _ ∧ _ < 0 + 128; omega
  · refine ex_next _ _ _ (ex_next _ _ _ (ex_here _ _ _ _ (mem_unit3 _ _ _ _ fun a => ?_)))
    simp only at hr
    match a with
    | 0 => show 1 ≤ _ ∧ _ < 1 + 1; omega
    | 1 => show 0 ≤ _ ∧ _ < 0 + 56; omega
    | 2 => show 0 ≤ _ ∧ _ < 0 + 128; omega
  · refine ex_next _ _ _ (ex_here _ _ _ _ (mem_unit3 _ _ _ _ fun a => ?_))
    simp only at hr
    match a with
    | 0 => show 2 ≤ _ ∧ _ < 2 + 1; omega
    | 1 => show 0 ≤ _ ∧ _ < 0 + 56; omega
    | 2 => show 0 ≤ _ ∧ _ < 0 + 128; omega
  · refine ex_here _ _ _ _ (mem_unit3 _ _ _ _ fun a => ?_)
    simp only at hr
    match a with
    | 0 => show 3 ≤ _ ∧ _ < 3 + 1; omega
    | 1 => show 0 ≤ _ ∧ _ < 0 + 56; omega
    | 2 => show 0 ≤ _ ∧ _ < 0 + 128; omega

theorem covOut (Y6 Y7 : S8704x128.Idx → Elt F .f32) (Y9 Y10 Y11 : S4x56x128.Idx → Elt F .f32) (y : S56x56x512.Idx) :
    ∃ p ∈ pb2 (LT2 Y6 Y7 Y9 Y10 Y11) k0_t2_loop.trips, y ∈ p.1.set := by
  have h0 : (y 0).val < 56 := (y 0).isLt
  have h1 : (y 1).val < 56 := (y 1).isLt
  have h2 : (y 2).val < 512 := (y 2).isLt
  obtain ⟨k, hk⟩ : ∃ k : Fin k0_t2_loop.trips, k.val = (y 0).val := ⟨⟨(y 0).val, by rw [trips2]; exact h0⟩, rfl⟩
  have key : ∃ p ∈ LT2 Y6 Y7 Y9 Y10 Y11 k, y ∈ p.1.set := by
    unfold LT2
    obtain ⟨r, hr⟩ : ∃ r : Fin 4, (y 2).val / 128 = r.val := ⟨⟨(y 2).val / 128, by omega⟩, rfl⟩
    by_cases hh : (y 1).val < 32
    · fin_cases r
      · refine ex_next _ _ _ (ex_next _ _ _ (ex_next _ _ _ (ex_next _ _ _ (ex_next _ _ _ (ex_next _ _ _ (ex_next _ _ _ (ex_here _ _ _ _ (mem_unit3 _ _ _ _ fun a => ?_))))))))
        simp only at hr
        rw [k0_off7_eq]
        match a with
        | 0 => show k.val ≤ _ ∧ _ < k.val + 1; omega
        | 1 => show 0 ≤ _ ∧ _ < 0 + 32; omega
        | 2 => show 0 ≤ _ ∧ _ < 0 + 128; omega
      · refine ex_next _ _ _ (ex_next _ _ _ (ex_next _ _ _ (ex_next _ _ _ (ex_next _ _ _ (ex_next _ _ _ (ex_here _ _ _ _ (mem_unit3 _ _ _ _ fun a => ?_)))))))
        simp only at hr
        rw [k0_off9_eq]
        match a with
        | 0 => show k.val ≤ _ ∧ _ < k.val + 1; omega
        | 1 => show 0 ≤ _ ∧ _ < 0 + 32; omega
        | 2 => show 128 ≤ _ ∧ _ < 128 + 128; omega
      · refine ex_next _ _ _ (ex_next _ _ _ (ex_next _ _ _ (ex_next _ _ _ (ex_next _ _ _ (ex_here _ _ _ _ (mem_unit3 _ _ _ _ fun a => ?_))))))
        simp only at hr
        rw [k0_off11_eq]
        match a with
        | 0 => show k.val ≤ _ ∧ _ < k.val + 1; omega
        | 1 => show 0 ≤ _ ∧ _ < 0 + 32; omega
        | 2 => show 256 ≤ _ ∧ _ < 256 + 128; omega
      · refine ex_next _ _ _ (ex_next _ _ _ (ex_next _ _ _ (ex_next _ _ _ (ex_here _ _ _ _ (mem_unit3 _ _ _ _ fun a => ?_)))))
        simp only at hr
        rw [k0_off13_eq]
        match a with
        | 0 => show k.val ≤ _ ∧ _ < k.val + 1; omega
        | 1 => show 0 ≤ _ ∧ _ < 0 + 32; omega
        | 2 => show 384 ≤ _ ∧ _ < 384 + 128; omega
    · fin_cases r
      · refine ex_next _ _ _ (ex_next _ _ _ (ex_next _ _ _ (ex_here _ _ _ _ (mem_unit3 _ _ _ _ fun a => ?_))))
        simp only at hr
        rw [k0_off14_eq]
        match a with
        | 0 => show k.val ≤ _ ∧ _ < k.val + 1; omega
        | 1 => show 32 ≤ _ ∧ _ < 32 + 24; omega
        | 2 => show 0 ≤ _ ∧ _ < 0 + 128; omega
      · refine ex_next _ _ _ (ex_next _ _ _ (ex_here _ _ _ _ (mem_unit3 _ _ _ _ fun a => ?_)))
        simp only at hr
        rw [k0_off15_eq]
        match a with
        | 0 => show k.val ≤ _ ∧ _ < k.val + 1; omega
        | 1 => show 32 ≤ _ ∧ _ < 32 + 24; omega
        | 2 => show 128 ≤ _ ∧ _ < 128 + 128; omega
      · refine ex_next _ _ _ (ex_here _ _ _ _ (mem_unit3 _ _ _ _ fun a => ?_))
        simp only at hr
        rw [k0_off16_eq]
        match a with
        | 0 => show k.val ≤ _ ∧ _ < k.val + 1; omega
        | 1 => show 32 ≤ _ ∧ _ < 32 + 24; omega
        | 2 => show 256 ≤ _ ∧ _ < 256 + 128; omega
      · refine ex_here _ _ _ _ (mem_unit3 _ _ _ _ fun a => ?_)
        simp only at hr
        rw [k0_off17_eq]
        match a with
        | 0 => show k.val ≤ _ ∧ _ < k.val + 1; omega
        | 1 => show 32 ≤ _ ∧ _ < 32 + 24; omega
        | 2 => show 384 ≤ _ ∧ _ < 384 + 128; omega
  obtain ⟨p, hp, h⟩ := key
  exact ⟨p, mem_pb2 (LT2 Y6 Y7 Y9 Y10 Y11) k p hp _ k.isLt, h⟩

/-- The planes of products and the tables, as the stores leave them. -/
def T6 (X : S16384x128.Idx → Elt F .i32) : S8704x128.Idx → Elt F .f32 := View.canon (pb6 X k0_t1_loop.trips)
def T7 (X : S16384x128.Idx → Elt F .i32) : S8704x128.Idx → Elt F .f32 := View.canon (pb7 X k0_t1_loop.trips)
def T8 (X : S16384x128.Idx → Elt F .i32) : S2x128x128.Idx → Elt F .f32 := View.canon (pb8 X k0_t1_loop.trips)
def T9 (X : S56x512.Idx → Elt F .f32) : S4x56x128.Idx → Elt F .f32 := View.canon (P9 X)
def T10 (X : S56x512.Idx → Elt F .f32) (Y : S2x128x128.Idx → Elt F .f32) : S4x56x128.Idx → Elt F .f32 := View.canon (P10 X Y)
def T11 (U V : S1x512.Idx → Elt F .i32) : S4x56x128.Idx → Elt F .f32 := View.canon (P11 U V)

/-- The block the kernel writes, of the four blocks it reads. -/
def OUT (X1 : S16384x128.Idx → Elt F .i32) (X2 : S56x512.Idx → Elt F .f32) (X3 X4 : S1x512.Idx → Elt F .i32) :
    S56x56x512.Idx → Elt F .f32 :=
  View.canon (pb2 (LT2 (T6 X1) (T7 X1) (T9 X2) (T10 X2 (T8 X1)) (T11 X3 X4)) k0_t2_loop.trips)

/-- The second loop reads a plane of products only where the first has stored. -/
theorem sq_congr (Y Y' : S8704x128.Idx → Elt F .f32) (h : ∀ y, (y 0).val % 136 < 128 → Y y = Y' y) (k : Fin k0_t2_loop.trips) :
    sq Y k = sq Y' k := by
  have hk : k.val < 56 := lt_of_lt_of_eq k.isLt trips2
  funext x
  refine h _ ?_
  have hx : (x 0).val < 128 := (x 0).isLt
  show (k0_off5 k 0 + 1 * (x 0).val) % 136 < 128
  rw [k0_off5_eq]
  show (136 * k.val + 1 * (x 0).val) % 136 < 128
  omega

theorem LT2_congr (Y6 Y7 Y6' Y7' : S8704x128.Idx → Elt F .f32) (Y9 Y10 Y11 : S4x56x128.Idx → Elt F .f32)
    (h6 : ∀ y, (y 0).val % 136 < 128 → Y6 y = Y6' y) (h7 : ∀ y, (y 0).val % 136 < 128 → Y7 y = Y7' y) :
    LT2 Y6 Y7 Y9 Y10 Y11 = LT2 Y6' Y7' Y9 Y10 Y11 := by
  funext k
  unfold LT2
  rw [sq_congr Y6 Y6' h6, sq_congr Y7 Y7' h7]

theorem read_fin (arg5 : Memref sig .tc .vmem S56x56x512 .f32) (arg6 arg7 : Memref sig .tc .vmem S8704x128 .f32)
    (arg8 : Memref sig .tc .vmem S2x128x128 .f32) (arg9 arg10 arg11 : Memref sig .tc .vmem S4x56x128 .f32)
    (X5 : BufTy.Contents (Elt F) arg5.view.ty) (X6 : BufTy.Contents (Elt F) arg6.view.ty) (X7 : BufTy.Contents (Elt F) arg7.view.ty)
    (X1 : S16384x128.Idx → Elt F .i32) (X2 : S56x512.Idx → Elt F .f32) (X3 X4 : S1x512.Idx → Elt F .i32) :
    arg5.view.read (Elt F) (arg5.view.writes (Elt F) X5 (pb2 (LT2
        (arg6.view.read (Elt F) (arg6.view.writes (Elt F) X6 (pb6 X1 k0_t1_loop.trips)))
        (arg7.view.read (Elt F) (arg7.view.writes (Elt F) X7 (pb7 X1 k0_t1_loop.trips)))
        (arg9.view.read (Elt F) (arg9.view.writes (Elt F) arg9.view.junk (P9 X2)))
        (arg10.view.read (Elt F) (arg10.view.writes (Elt F) arg10.view.junk
          (P10 X2 (arg8.view.read (Elt F) (arg8.view.writes (Elt F) arg8.view.junk (pb8 X1 k0_t1_loop.trips))))))
        (arg11.view.read (Elt F) (arg11.view.writes (Elt F) arg11.view.junk (P11 X3 X4)))) k0_t2_loop.trips)) = OUT X1 X2 X3 X4 := by
  rw [View.read_writes_eq_canon arg8.view _ _ (cov8 X1),
    View.read_writes_eq_canon arg9.view _ _ (by unfold P9; exact cov_planes _ _ _ _),
    View.read_writes_eq_canon arg10.view _ _ (by unfold P10; exact cov_planes _ _ _ _),
    View.read_writes_eq_canon arg11.view _ _ (by unfold P11; exact cov_planes _ _ _ _),
    View.read_writes_eq_canon arg5.view _ _ (covOut _ _ _ _ _),
    LT2_congr _ _ (T6 X1) (T7 X1) _ _ _
      (fun y hy => View.read_writes_apply_eq_canon arg6.view _ y _ (cov6 X1 y hy))
      (fun y hy => View.read_writes_apply_eq_canon arg7.view _ y _ (cov7 X1 y hy))]
  rfl

end Cert.Proof.KernelIdeal
end
-- ==== Proof.KI.Frame.lean ====
module

public import proofs.«01_k».proof.Proof.K.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KI.Cover

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body from owned memrefs: the four windows read are kept, the result window ends at `OUT` of what they hold, the
    scratch buffers are handed back at some contents. -/
theorem kernel_owns (c : Dev nD) (i : grid0.Coords) (arg1 : Memref sig .tc .vmem S16384x128 .i32) (harg1 : arg1.IsWhole) (arg2 : Memref sig .tc .vmem S56x512 .f32) (harg2 : arg2.IsWhole) (arg3 : Memref sig .tc .vmem S1x512 .i32) (harg3 : arg3.IsWhole) (arg4 : Memref sig .tc .vmem S1x512 .i32) (harg4 : arg4.IsWhole) (arg5 : Memref sig .tc .vmem S56x56x512 .f32) (harg5 : arg5.IsWhole) (arg6 : Memref sig .tc .vmem S8704x128 .f32) (harg6 : arg6.IsWhole) (arg7 : Memref sig .tc .vmem S8704x128 .f32) (harg7 : arg7.IsWhole) (arg8 : Memref sig .tc .vmem S2x128x128 .f32) (harg8 : arg8.IsWhole) (arg9 : Memref sig .tc .vmem S4x56x128 .f32) (harg9 : arg9.IsWhole) (arg10 : Memref sig .tc .vmem S4x56x128 .f32) (harg10 : arg10.IsWhole) (arg11 : Memref sig .tc .vmem S4x56x128 .f32) (harg11 : arg11.IsWhole)
    (X1 : S16384x128.Idx → Elt F .i32) (X2 : S56x512.Idx → Elt F .f32) (X3 X4 : S1x512.Idx → Elt F .i32) :
      (iprop(owns (c : Thread nD τ) arg1 fullShare X1 ∗ owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none (c : Thread nD τ) none) Set.univ (cc0_gram (F := F) i arg1 harg1 arg2 harg2 arg3 harg3 arg4 harg4 arg5 harg5 arg6 harg6 arg7 harg7 arg8 harg8 arg9 harg9 arg10 harg10 arg11 harg11)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare (OUT X1 X2 X3 X4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  unfold owns
  iintro ⟨⟨%f1, %h1, H1⟩, ⟨%f2, %h2, H2⟩, ⟨%f3, %h3, H3⟩, ⟨%f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩⟩
  iapply (wp_wand_r Idealize.ShloMosaic.frame (wpE (defs₀ (F := F)) Variants.none (c : Thread nD τ) none) Set.univ)
  isplitl [H1 H2 H3 H4 H5 H6 H7 H8 H9 H10 H11]
  · iapply (kernel_run (F := F) c i arg1 harg1 arg2 harg2 arg3 harg3 arg4 harg4 arg5 harg5 arg6 harg6 arg7 harg7 arg8 harg8 arg9 harg9 arg10 harg10 arg11 harg11 f1 f2 f3 f4 f5 f6 f7 f8 f9 f10 f11)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H1, H2, H3, H4, H5, ⟨%g6, H6⟩, ⟨%g7, H7⟩, ⟨%g8, H8⟩, ⟨%g9, H9⟩, ⟨%g10, H10⟩, ⟨%g11, H11⟩⟩
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists _; isplitr
      rotate_left
      · iexact H5
      · ipureintro; rw [h1, h2, h3, h4]; exact read_fin arg5 arg6 arg7 arg8 arg9 arg10 arg11 f5 f6 f7 X1 X2 X3 X4
    isplitl [H6]
    · iexists _; iexists g6; isplitr; · ipureintro; rfl
      iexact H6
    isplitl [H7]
    · iexists _; iexists g7; isplitr; · ipureintro; rfl
      iexact H7
    isplitl [H8]
    · iexists _; iexists g8; isplitr; · ipureintro; rfl
      iexact H8
    isplitl [H9]
    · iexists _; iexists g9; isplitr; · ipureintro; rfl
      iexact H9
    isplitl [H10]
    · iexists _; iexists g10; isplitr; · ipureintro; rfl
      iexact H10
    iexists _; iexists g11; isplitr; · ipureintro; rfl
    iexact H11

variable (m : (ℓ : Loc nD τ sig) → Buf (Elt F) ℓ) (ρ : Dev nD → PrngReg)

/-- What the four windows read hold at point `t`. -/
def in0 (c : Dev nD) (t : Fin cfg0.N) : S16384x128.Idx → Elt F .i32 := iblk m c 0 t
def in1 (c : Dev nD) (t : Fin cfg0.N) : S56x512.Idx → Elt F .f32 := iblk m c 1 t
def in2 (c : Dev nD) (t : Fin cfg0.N) : S1x512.Idx → Elt F .i32 := iblk m c 2 t
def in3 (c : Dev nD) (t : Fin cfg0.N) : S1x512.Idx → Elt F .i32 := iblk m c 3 t

/-- The block the body leaves at point `t`. -/
def outAt (c : Dev nD) (t : Fin cfg0.N) : S56x56x512.Idx → Elt F .f32 := OUT (in0 m c t) (in1 m c t) (in2 m c t) (in3 m c t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = iblk m c 3 t := by dsimp only [dats]; rfl
theorem after0_4 (c : Dev nD) (t : Fin cfg0.N) : (dats m 0 c).after 4 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq,
    after0_0, after0_1, after0_2, after0_3, after0_4]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  simp only [← owns_whole]
  iintro ⟨⟨⟨⟨%e6, S0⟩, ⟨%e7, S1⟩, ⟨%e8, S2⟩, ⟨%e9, S3⟩, ⟨%e10, S4⟩, ⟨%e11, S5⟩⟩, Hg⟩, HO, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 S0 S1 S2 S3 S4 S5]
  · iapply (kernel_owns (F := F) c _ _ _ _ _ _ _ _ _ _ _ _ _ _ _ _ _ _ _ _ _ _ _ (in0 m c t) (in1 m c t) (in2 m c t) (in3 m c t))
    isplitl [H0]; · iexact H0
    isplitl [H1]; · iexact H1
    isplitl [H2]; · iexact H2
    isplitl [H3]; · iexact H3
    isplitl [H4]; · iexists _; iexact H4
    isplitl [S0]; · iexists _; iexact S0
    isplitl [S1]; · iexists _; iexact S1
    isplitl [S2]; · iexists _; iexact S2
    isplitl [S3]; · iexists _; iexact S3
    isplitl [S4]; · iexists _; iexact S4
    iexists _; iexact S5
  · iintro %_ ⟨H0, H1, H2, H3, H4, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        iexact S5
      · iexact Hg
    isplitl [HO]; · iexact HO
    isplitl [H0]; · iexact H0
    isplitl [H1]; · iexact H1
    isplitl [H2]; · iexact H2
    isplitl [H3]; · iexact H3
    iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, from any memory with zero counters: every fair execution terminates, the arrays end at what the proof data
    compute, every other unscoped buffer as the host operations after the region leave it, every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault, the four arguments keep their contents, every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩) (run_main m ρ)

end Cert.Proof.KernelIdeal
end
-- ==== Proof.RI.Frame.lean ====
module

public import proofs.«01_k».proof.Proof.Gen.ReferenceIdeal.Run
public import Idealize.ShloMosaic.Lib.Quiescent

@[expose] public section

set_option maxRecDepth 8192
set_option maxHeartbeats 400000

noncomputable section

namespace Cert.Proof.RI

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The reference's run ends with the arguments unchanged and every counter at zero. -/
theorem frame_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2,
      Idealize.ShloMosaic.sem_eq_zero_of_no_sems (by decide) r.2⟩) (Value.run (F := F) m ρ)

end Cert.Proof.RI

end
-- ==== Proof.KI.Value1.lean ====
/-
  What one trip of the first loop computes, over the ideal numbers: the bytes of a group's words as signed integers, the table
  of their inner products, and the tile of it each row of a plane holds.
-/
module

public import proofs.«01_k».proof.Proof.KI.Cover
public import Idealize.ShloMosaic.Lib.BitcastFour
public import Idealize.ShloMosaic.Lib.Pointwise

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.ShloMosaic.Pointwise

/-- Byte `q` of a word. -/
def byteOf (w : BitVec 32) (q : ℕ) : BitVec 8 := w.extractLsb' (8 * q) 8

/-- Words read as bytes, four rows for one: row `a` is byte `a % 4` of row `a / 4`. -/
theorem bitcast_bytes {R r n : ℕ} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = byteOf (x (ix2 p l)) (a.val % 4) := by
  have hrow : (⟨2, ![R, n]⟩ : Shape).row (ix2 a l) = a.val := rfl
  apply BitVec.eq_of_getLsbD_eq
  intro q hq
  have hq8 : q < 8 := hq
  rw [bitcast_getLsbD x h _ q hq8 (by decide)]
  have e1 : ((⟨2, ![R, n]⟩ : Shape).row (ix2 a l) * 8 + q) / 32 = p.val := by rw [hrow, hp]; omega
  have e2 : ((⟨2, ![R, n]⟩ : Shape).row (ix2 a l) * 8 + q) % 32 = 8 * (a.val % 4) + q := by rw [hrow]; omega
  have ei : h.srcIdx (ix2 a l) (((⟨2, ![R, n]⟩ : Shape).row (ix2 a l) * 8 + q) / 32) (fun b hb =>
          (Nat.div_lt_iff_lt_mul (by decide : 0 < 32)).2 (h.pos_lt (ix2 a l) q hq8 b hb)) = ix2 p l := by
    funext b
    apply Fin.ext
    match b with
    | ⟨0, _⟩ => exact (h.srcIdx_row _ _ _ ⟨0, Nat.zero_lt_two⟩ rfl).trans e1
    | ⟨1, _⟩ => exact (h.srcIdx_other _ _ _ ⟨1, Nat.one_lt_two⟩ (by show ¬ (1 + 2 = 2); omega)).trans rfl
  rw [ei, e2]
  unfold byteOf
  rw [BitVec.getLsbD_extractLsb']
  simp [hq8]

/-- Coordinate `d` of candidate `p` of a group: half `p / 128` holds the candidate's words in lanes `64 (p / 128) …`. -/
def code (v : Vec Ideal S128x128 .i32) (p : Fin 256) (d : Fin 192) : EReal :=
  (((byteOf (v (ix2 (⟨p.val % 128, by omega⟩ : Fin 128) (⟨p.val / 128 * 64 + d.val / 4, by omega⟩ : Fin 128))) (d.val % 4)).toInt : ℝ) : EReal)

theorem code_low (v : Vec Ideal S128x128 .i32) (p : Fin 256) (d : Fin 192) (h : p.val < 128) :
    FloatOps.sitofp (F := Ideal) FTy.bf16 (bitcast S192x128 8
        (extractStridedSlice S48x128 ![0, 0] (transpose S128x128 [1, 0] v transposes_S128x128_p1_0_S128x128)
          slices_S128x128_o0_0_S48x128) bitcasts_S48x128_w32_S192x128_w8 (ix2 d (⟨p.val, h⟩ : Fin 128))) = code v p d := by
  rw [bitcast_bytes (R := 192) (r := 48) (n := 128) _ _ d ⟨p.val, h⟩ ⟨d.val / 4, by omega⟩ rfl]
  pointwise []
  unfold code
  congr 5
  all_goals omega

theorem code_high (v : Vec Ideal S128x128 .i32) (p : Fin 256) (d : Fin 192) (h : ¬ p.val < 128) (h' : p.val - 128 < 128) :
    FloatOps.sitofp (F := Ideal) FTy.bf16 (bitcast S192x128 8
        (extractStridedSlice S48x128 ![64, 0] (transpose S128x128 [1, 0] v transposes_S128x128_p1_0_S128x128)
          slices_S128x128_o64_0_S48x128) bitcasts_S48x128_w32_S192x128_w8 (ix2 d (⟨p.val - 128, h'⟩ : Fin 128))) = code v p d := by
  rw [bitcast_bytes (R := 192) (r := 48) (n := 128) _ _ d ⟨p.val - 128, h'⟩ ⟨d.val / 4, by omega⟩ rfl]
  pointwise []
  unfold code
  congr 5
  all_goals omega

/-- The inner product of the codes of candidates `p` and `q` of a group. -/
def dotp (v : Vec Ideal S128x128 .i32) (p q : Fin 256) : EReal := ∑ d : Fin 192, code v p d * code v q d

/-- The table of inner products. -/
theorem pay1_at (v : Vec Ideal S128x128 .i32) (p q : Fin 256) : k0_pay1 v (ix2 p q) = dotp v p q := by
  unfold dotp
  pointwise [k0_pay1]
  refine Finset.sum_congr rfl fun d _ => ?_
  have e : ∀ p : Fin 256, (if h : p.val < 128 then FloatOps.sitofp (F := Ideal) FTy.bf16 (bitcast S192x128 8
        (extractStridedSlice S48x128 ![0, 0] (transpose S128x128 [1, 0] v transposes_S128x128_p1_0_S128x128)
          slices_S128x128_o0_0_S48x128) bitcasts_S48x128_w32_S192x128_w8 (ix2 d (⟨p.val, h⟩ : Fin 128)))
      else FloatOps.sitofp (F := Ideal) FTy.bf16 (bitcast S192x128 8
        (extractStridedSlice S48x128 ![64, 0] (transpose S128x128 [1, 0] v transposes_S128x128_p1_0_S128x128)
          slices_S128x128_o64_0_S48x128) bitcasts_S48x128_w32_S192x128_w8 (ix2 d (⟨p.val - 128, by omega⟩ : Fin 128)))) = code v p d := by
    intro p
    by_cases h : p.val < 128
    · rw [dif_pos h]; exact code_low v p d h
    · rw [dif_neg h]; exact code_high v p d h _
  exact congrArg₂ (· * ·) (e p) (e q)

theorem lane32 : ∀ l : Fin 128, IntOp.cmpi CmpIPredicate.slt (BitVec.ofNat 32 l.val) 32#32 = if l.val < 32 then 1#1 else 0#1 := by
  decide +kernel
theorem lane64 : ∀ l : Fin 128, IntOp.cmpi CmpIPredicate.slt (BitVec.ofNat 32 l.val) 64#32 = if l.val < 64 then 1#1 else 0#1 := by
  decide +kernel
theorem lane96 : ∀ l : Fin 128, IntOp.cmpi CmpIPredicate.slt (BitVec.ofNat 32 l.val) 96#32 = if l.val < 96 then 1#1 else 0#1 := by
  decide +kernel
theorem laneEye : ∀ (l : Fin 128) (x : Fin 32), IntOp.cmpi CmpIPredicate.eq (IntOp.andi (BitVec.ofNat 32 l.val) 31#32) (BitVec.ofNat 32 x.val)
    = if x.val = l.val % 32 then 1#1 else 0#1 := by
  decide +kernel

/-- Of four rows of a table, the one lane `l` takes is that of the quarter `l` lies in. -/
theorem quarter {α : Type} (l : Fin 128) (A B C D : α) (G : ℕ → α) (hA : l.val / 32 = 0 → A = G (l.val / 32))
    (hB : l.val / 32 = 1 → B = G (l.val / 32)) (hC : l.val / 32 = 2 → C = G (l.val / 32)) (hD : l.val / 32 = 3 → D = G (l.val / 32)) :
    Scalar.select (IntOp.cmpi CmpIPredicate.slt (BitVec.ofNat 32 l.val) 64#32)
      (Scalar.select (IntOp.cmpi CmpIPredicate.slt (BitVec.ofNat 32 l.val) 32#32) A B)
      (Scalar.select (IntOp.cmpi CmpIPredicate.slt (BitVec.ofNat 32 l.val) 96#32) C D) = G (l.val / 32) := by
  have hl := l.isLt
  rw [lane32, lane64, lane96]
  by_cases h1 : l.val < 32
  · rw [if_pos h1, if_pos (by omega)]; exact hA (by omega)
  · by_cases h2 : l.val < 64
    · rw [if_neg h1, if_pos h2]; exact hB (by omega)
    · by_cases h3 : l.val < 96
      · rw [if_neg h2, if_pos h3]; exact hC (by omega)
      · rw [if_neg h2, if_neg h3]; exact hD (by omega)

theorem dotp_congr (v : Vec Ideal S128x128 .i32) {p p' q q' : Fin 256} (hp : p.val = p'.val) (hq : q.val = q'.val) :
    dotp v p q = dotp v p' q' := by rw [Fin.ext hp, Fin.ext hq]

/-- The tile of halves `h`, `e` of the table: lane `l` of row `r` holds the product of candidates `32 h + r` and
    `32 e + l % 32` of the node whose quarter `l` lies in. -/
def tile (v : Vec Ideal S128x128 .i32) (h e r l : ℕ) : EReal :=
  dotp v ⟨(h * 128 + l / 32 * 32 + r) % 256, Nat.mod_lt _ (by decide)⟩ ⟨(e * 128 + l) % 256, Nat.mod_lt _ (by decide)⟩

theorem pay2_at (v : Vec Ideal S128x128 .i32) (r : Fin 32) (l : Fin 128) :
    k0_pay2 k0_pay51 k0_pay52 k0_pay53 v (ix2 r l) = tile v 0 0 r.val l.val := by
  pointwise [k0_pay2, k0_pay51, k0_pay52, k0_pay53]
  unfold tile
  refine quarter l _ _ _ _ (fun a => dotp v ⟨(0 * 128 + a * 32 + r.val) % 256, Nat.mod_lt _ (by decide)⟩ ⟨(0 * 128 + l.val) % 256, Nat.mod_lt _ (by decide)⟩) ?_ ?_ ?_ ?_ <;>
  · intro h
    refine (pay1_at v _ _).trans (dotp_congr v ?_ ?_)
    · show _ = (0 * 128 + l.val / 32 * 32 + r.val) % 256; dsimp only; omega
    · show _ = (0 * 128 + l.val) % 256; dsimp only; omega

theorem pay8_at (v : Vec Ideal S128x128 .i32) (r : Fin 32) (l : Fin 128) :
    k0_pay8 k0_pay51 k0_pay52 k0_pay53 (k0_pay1 v) (ix2 r l) = tile v 0 1 r.val l.val := by
  pointwise [k0_pay8, k0_pay51, k0_pay52, k0_pay53]
  unfold tile
  refine quarter l _ _ _ _ (fun a => dotp v ⟨(0 * 128 + a * 32 + r.val) % 256, Nat.mod_lt _ (by decide)⟩ ⟨(1 * 128 + l.val) % 256, Nat.mod_lt _ (by decide)⟩) ?_ ?_ ?_ ?_ <;>
  · intro h
    refine (pay1_at v _ _).trans (dotp_congr v ?_ ?_)
    · show _ = (0 * 128 + l.val / 32 * 32 + r.val) % 256; dsimp only; omega
    · show _ = (1 * 128 + l.val) % 256; dsimp only; omega

theorem pay16_at (v : Vec Ideal S128x128 .i32) (r : Fin 32) (l : Fin 128) :
    k0_pay16 k0_pay51 k0_pay52 k0_pay53 (k0_pay1 v) (k0_pay13 (k0_pay1 v)) (k0_pay14 (k0_pay1 v)) (k0_pay15 (k0_pay1 v)) (ix2 r l)
      = tile v 1 0 r.val l.val := by
  pointwise [k0_pay16, k0_pay13, k0_pay14, k0_pay15, k0_pay51, k0_pay52, k0_pay53]
  unfold tile
  refine quarter l _ _ _ _ (fun a => dotp v ⟨(1 * 128 + a * 32 + r.val) % 256, Nat.mod_lt _ (by decide)⟩ ⟨(0 * 128 + l.val) % 256, Nat.mod_lt _ (by decide)⟩) ?_ ?_ ?_ ?_ <;>
  · intro h
    refine (pay1_at v _ _).trans (dotp_congr v ?_ ?_)
    · show _ = (1 * 128 + l.val / 32 * 32 + r.val) % 256; dsimp only; omega
    · show _ = (0 * 128 + l.val) % 256; dsimp only; omega

theorem pay21_at (v : Vec Ideal S128x128 .i32) (r : Fin 32) (l : Fin 128) :
    k0_pay21 k0_pay51 k0_pay52 k0_pay53 (k0_pay1 v) (ix2 r l) = tile v 1 1 r.val l.val := by
  pointwise [k0_pay21, k0_pay51, k0_pay52, k0_pay53]
  unfold tile
  refine quarter l _ _ _ _ (fun a => dotp v ⟨(1 * 128 + a * 32 + r.val) % 256, Nat.mod_lt _ (by decide)⟩ ⟨(1 * 128 + l.val) % 256, Nat.mod_lt _ (by decide)⟩) ?_ ?_ ?_ ?_ <;>
  · intro h
    refine (pay1_at v _ _).trans (dotp_congr v ?_ ?_)
    · show _ = (1 * 128 + l.val / 32 * 32 + r.val) % 256; dsimp only; omega
    · show _ = (1 * 128 + l.val) % 256; dsimp only; omega

/-- The eye keeps one row of each lane's column: the sum is that row's element. -/
theorem eye_sum (l : Fin 128) (f : Fin 32 → EReal) :
    (∑ x : Fin 32, Scalar.select (IntOp.cmpi CmpIPredicate.eq (IntOp.andi (BitVec.ofNat 32 l.val) 31#32) (BitVec.ofNat 32 x.val)) (f x) 0)
      = f ⟨l.val % 32, by omega⟩ := by
  rw [Finset.sum_eq_single (⟨l.val % 32, by omega⟩ : Fin 32)]
  · rw [laneEye, if_pos rfl]; rfl
  · intro x _ hx
    rw [laneEye, if_neg (fun h => hx (Fin.ext h))]; rfl
  · intro h; exact absurd (Finset.mem_univ _) h

theorem pay7_at (v : Vec Ideal S128x128 .i32) (x y : Fin 1) (l : Fin 128) :
    k0_pay7 k0_pay50 (k0_pay2 k0_pay51 k0_pay52 k0_pay53 v) (ix3 x y l) = tile v 0 0 (l.val % 32) l.val := by
  pointwise [k0_pay7, k0_pay50]
  exact (eye_sum l fun x => k0_pay2 k0_pay51 k0_pay52 k0_pay53 v (ix2 x l)).trans (pay2_at v _ l)

theorem pay57_at (v : Vec Ideal S128x128 .i32) (x y : Fin 1) (l : Fin 128) :
    k0_pay57 (k0_pay21 k0_pay51 k0_pay52 k0_pay53 (k0_pay1 v)) (ix3 x y l) = tile v 1 1 (l.val % 32) l.val := by
  pointwise [k0_pay57, k0_pay50]
  exact (eye_sum l fun x => k0_pay21 k0_pay51 k0_pay52 k0_pay53 (k0_pay1 v) (ix2 x l)).trans (pay21_at v _ l)

theorem pay3_at (v : Vec Ideal S128x128 .i32) (r : Fin 8) (l : Fin 128) :
    k0_pay3 k0_pay51 k0_pay52 k0_pay53 v (ix2 r l) = tile v 0 0 (0 + r.val) l.val := by
  pointwise [k0_pay3]
  exact (pay2_at v _ _).trans (congrArg (fun z => tile v 0 0 z l.val) (by dsimp only))

theorem pay4_at (v : Vec Ideal S128x128 .i32) (r : Fin 8) (l : Fin 128) :
    k0_pay4 k0_pay51 k0_pay52 k0_pay53 v (ix2 r l) = tile v 0 0 (8 + r.val) l.val := by
  pointwise [k0_pay4]
  exact (pay2_at v _ _).trans (congrArg (fun z => tile v 0 0 z l.val) (by dsimp only))

theorem pay5_at (v : Vec Ideal S128x128 .i32) (r : Fin 8) (l : Fin 128) :
    k0_pay5 k0_pay51 k0_pay52 k0_pay53 v (ix2 r l) = tile v 0 0 (16 + r.val) l.val := by
  pointwise [k0_pay5]
  exact (pay2_at v _ _).trans (congrArg (fun z => tile v 0 0 z l.val) (by dsimp only))

theorem pay6_at (v : Vec Ideal S128x128 .i32) (r : Fin 8) (l : Fin 128) :
    k0_pay6 k0_pay51 k0_pay52 k0_pay53 v (ix2 r l) = tile v 0 0 (24 + r.val) l.val := by
  pointwise [k0_pay6]
  exact (pay2_at v _ _).trans (congrArg (fun z => tile v 0 0 z l.val) (by dsimp only))

theorem pay9_at (v : Vec Ideal S128x128 .i32) (r : Fin 8) (l : Fin 128) :
    k0_pay9 k0_pay51 k0_pay52 k0_pay53 (k0_pay1 v) (ix2 r l) = tile v 0 1 (0 + r.val) l.val := by
  pointwise [k0_pay9]
  exact (pay8_at v _ _).trans (congrArg (fun z => tile v 0 1 z l.val) (by dsimp only))

theorem pay10_at (v : Vec Ideal S128x128 .i32) (r : Fin 8) (l : Fin 128) :
    k0_pay10 k0_pay51 k0_pay52 k0_pay53 (k0_pay1 v) (ix2 r l) = tile v 0 1 (8 + r.val) l.val := by
  pointwise [k0_pay10]
  exact (pay8_at v _ _).trans (congrArg (fun z => tile v 0 1 z l.val) (by dsimp only))

theorem pay11_at (v : Vec Ideal S128x128 .i32) (r : Fin 8) (l : Fin 128) :
    k0_pay11 k0_pay51 k0_pay52 k0_pay53 (k0_pay1 v) (ix2 r l) = tile v 0 1 (16 + r.val) l.val := by
  pointwise [k0_pay11]
  exact (pay8_at v _ _).trans (congrArg (fun z => tile v 0 1 z l.val) (by dsimp only))

theorem pay12_at (v : Vec Ideal S128x128 .i32) (r : Fin 8) (l : Fin 128) :
    k0_pay12 k0_pay51 k0_pay52 k0_pay53 (k0_pay1 v) (ix2 r l) = tile v 0 1 (24 + r.val) l.val := by
  pointwise [k0_pay12]
  exact (pay8_at v _ _).trans (congrArg (fun z => tile v 0 1 z l.val) (by dsimp only))

theorem pay17_at (v : Vec Ideal S128x128 .i32) (r : Fin 8) (l : Fin 128) :
    k0_pay17 k0_pay51 k0_pay52 k0_pay53 (k0_pay1 v) (k0_pay13 (k0_pay1 v)) (k0_pay14 (k0_pay1 v)) (k0_pay15 (k0_pay1 v)) (ix2 r l) = tile v 1 0 (0 + r.val) l.val := by
  pointwise [k0_pay17]
  exact (pay16_at v _ _).trans (congrArg (fun z => tile v 1 0 z l.val) (by dsimp only))

theorem pay18_at (v : Vec Ideal S128x128 .i32) (r : Fin 8) (l : Fin 128) :
    k0_pay18 k0_pay51 k0_pay52 k0_pay53 (k0_pay1 v) (k0_pay13 (k0_pay1 v)) (k0_pay14 (k0_pay1 v)) (k0_pay15 (k0_pay1 v)) (ix2 r l) = tile v 1 0 (8 + r.val) l.val := by
  pointwise [k0_pay18]
  exact (pay16_at v _ _).trans (congrArg (fun z => tile v 1 0 z l.val) (by dsimp only))

theorem pay19_at (v : Vec Ideal S128x128 .i32) (r : Fin 8) (l : Fin 128) :
    k0_pay19 k0_pay51 k0_pay52 k0_pay53 (k0_pay1 v) (k0_pay13 (k0_pay1 v)) (k0_pay14 (k0_pay1 v)) (k0_pay15 (k0_pay1 v)) (ix2 r l) = tile v 1 0 (16 + r.val) l.val := by
  pointwise [k0_pay19]
  exact (pay16_at v _ _).trans (congrArg (fun z => tile v 1 0 z l.val) (by dsimp only))

theorem pay20_at (v : Vec Ideal S128x128 .i32) (r : Fin 8) (l : Fin 128) :
    k0_pay20 k0_pay51 k0_pay52 k0_pay53 (k0_pay1 v) (k0_pay13 (k0_pay1 v)) (k0_pay14 (k0_pay1 v)) (k0_pay15 (k0_pay1 v)) (ix2 r l) = tile v 1 0 (24 + r.val) l.val := by
  pointwise [k0_pay20]
  exact (pay16_at v _ _).trans (congrArg (fun z => tile v 1 0 z l.val) (by dsimp only))

theorem pay22_at (v : Vec Ideal S128x128 .i32) (r : Fin 8) (l : Fin 128) :
    k0_pay22 k0_pay51 k0_pay52 k0_pay53 (k0_pay1 v) (ix2 r l) = tile v 1 1 (0 + r.val) l.val := by
  pointwise [k0_pay22]
  exact (pay21_at v _ _).trans (congrArg (fun z => tile v 1 1 z l.val) (by dsimp only))

theorem pay54_at (v : Vec Ideal S128x128 .i32) (r : Fin 8) (l : Fin 128) :
    k0_pay54 (k0_pay23 k0_pay51 k0_pay52 k0_pay53 (k0_pay1 v)) (ix2 r l) = tile v 1 1 (8 + r.val) l.val := by
  pointwise [k0_pay54, k0_pay23]
  exact (pay21_at v _ _).trans (congrArg (fun z => tile v 1 1 z l.val) (by dsimp only))

theorem pay55_at (v : Vec Ideal S128x128 .i32) (r : Fin 8) (l : Fin 128) :
    k0_pay55 (k0_pay21 k0_pay51 k0_pay52 k0_pay53 (k0_pay1 v)) (ix2 r l) = tile v 1 1 (16 + r.val) l.val := by
  pointwise [k0_pay55]
  exact (pay21_at v _ _).trans (congrArg (fun z => tile v 1 1 z l.val) (by dsimp only))

theorem pay56_at (v : Vec Ideal S128x128 .i32) (r : Fin 8) (l : Fin 128) :
    k0_pay56 (k0_pay21 k0_pay51 k0_pay52 k0_pay53 (k0_pay1 v)) (ix2 r l) = tile v 1 1 (24 + r.val) l.val := by
  pointwise [k0_pay56]
  exact (pay21_at v _ _).trans (congrArg (fun z => tile v 1 1 z l.val) (by dsimp only))

end Cert.Proof.KernelIdeal
end
-- ==== Proof.KI.Value2.lean ====
/-
  The planes of products and of norms after the first loop, read at a place.
-/
module

public import proofs.«01_k».proof.Proof.KI.Value1

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.ShloMosaic.Pointwise

/-- The block of words of group `g`. -/
def wblk (X : S16384x128.Idx → Elt Ideal .i32) (g : ℕ) : Vec Ideal S128x128 .i32 :=
  fun j => X (ix2 (⟨(128 * g + (j 0).val) % 16384, Nat.mod_lt _ (by decide)⟩ : Fin 16384) (⟨(j 1).val, (j 1).isLt⟩ : Fin 128))

theorem blk1_eq (X : S16384x128.Idx → Elt Ideal .i32) (k : Fin k0_t1_loop.trips) : blk1 X k = wblk X k.val := by
  have hk : k.val < 128 := lt_of_lt_of_eq k.isLt trips1
  funext j
  refine congrArg X (funext fun a => Fin.ext ?_)
  have hj : (j 0).val < 128 := (j 0).isLt
  match a with
  | 0 =>
    show k0_off1 k 0 + 1 * (j 0).val = (128 * k.val + (j 0).val) % 16384
    rw [k0_off1_eq]
    show 128 * k.val + 1 * (j 0).val = _
    omega
  | 1 =>
    show k0_off1 k 1 + 1 * (j 1).val = (j 1).val
    rw [k0_off1_eq]
    show 0 + 1 * (j 1).val = _
    omega

/-- What plane `e` of products holds at place `y`: row `y 0` is candidate `y 0 / 136` of group `y 0 % 136`. -/
def GT (e : ℕ) (X : S16384x128.Idx → Elt Ideal .i32) (y : S8704x128.Idx) : EReal :=
  tile (wblk X ((y 0).val % 136)) ((y 0).val / 136 / 32) e ((y 0).val / 136 % 32) (y 1).val

theorem slab_val (e h o : ℕ) (X : S16384x128.Idx → Elt Ideal .i32) (k : Fin k0_t1_loop.trips) (r : Fin 8) (off : Fin 2 → ℕ)
    (hoff : off = ![1088 * r.val + k.val, 0]) (ho : 8 * r.val = 32 * h + o) (ho' : o ≤ 24)
    (inb) (spos) (P : S8x128.Idx → EReal) (hP : ∀ (r' : Fin 8) (l : Fin 128), P (ix2 r' l) = tile (wblk X k.val) h e (o + r'.val) l.val)
    (x : S8x128.Idx) :
    P x = GT e X ((⟨(⟨off, S8x128.size, ![136, 1], inb⟩ : LoadRect S8704x128), spos⟩ : Rect S8704x128).emb x) := by
  have hk : k.val < 128 := lt_of_lt_of_eq k.isLt trips1
  subst hoff
  obtain ⟨a, b, rfl⟩ : ∃ (a : Fin 8) (b : Fin 128), x = ix2 a b := ⟨x 0, x 1, by funext c; match c with | 0 => rfl | 1 => rfl⟩
  rw [hP]
  have ha := a.isLt
  unfold GT
  have e0 : (((⟨(⟨![1088 * r.val + k.val, 0], S8x128.size, ![136, 1], inb⟩ : LoadRect S8704x128), spos⟩ : Rect S8704x128).emb (ix2 a b)) 0).val
    = 1088 * r.val + k.val + 136 * a.val := rfl
  have e1 : (((⟨(⟨![1088 * r.val + k.val, 0], S8x128.size, ![136, 1], inb⟩ : LoadRect S8704x128), spos⟩ : Rect S8704x128).emb (ix2 a b)) 1).val
    = 0 + 1 * b.val := rfl
  rw [e0, e1]
  have f1 : (1088 * r.val + k.val + 136 * a.val) % 136 = k.val := by omega
  have f2 : (1088 * r.val + k.val + 136 * a.val) / 136 / 32 = h := by omega
  have f3 : (1088 * r.val + k.val + 136 * a.val) / 136 % 32 = o + a.val := by omega
  rw [f1, f2, f3, Nat.zero_add, Nat.one_mul]

theorem T6_at (X : S16384x128.Idx → Elt Ideal .i32) (y : S8704x128.Idx) (hy : (y 0).val % 136 < 128) : T6 X y = GT 0 X y := by
  refine View.canon_apply_of_pieces (GT 0 X) _ ?_ y (cov6 X y hy)
  refine forall_pb _ (fun p : View.Piece (Elt Ideal) _ .f32 => ∀ x : p.1.shape.Idx, p.2 x = GT 0 X (p.1.emb x)) (fun k => ?_) _
  rw [blk1_eq]
  unfold L6
  refine List.forall_mem_cons.mpr ⟨fun x => slab_val 0 1 24 X k 7 _ (k0_off2_eq k 7) (by decide) (by decide) _ _ _ (pay20_at (wblk X k.val)) x, ?_⟩
  refine List.forall_mem_cons.mpr ⟨fun x => slab_val 0 1 16 X k 6 _ (k0_off2_eq k 6) (by decide) (by decide) _ _ _ (pay19_at (wblk X k.val)) x, ?_⟩
  refine List.forall_mem_cons.mpr ⟨fun x => slab_val 0 1 8 X k 5 _ (k0_off2_eq k 5) (by decide) (by decide) _ _ _ (pay18_at (wblk X k.val)) x, ?_⟩
  refine List.forall_mem_cons.mpr ⟨fun x => slab_val 0 1 0 X k 4 _ (k0_off2_eq k 4) (by decide) (by decide) _ _ _ (pay17_at (wblk X k.val)) x, ?_⟩
  refine List.forall_mem_cons.mpr ⟨fun x => slab_val 0 0 24 X k 3 _ (k0_off2_eq k 3) (by decide) (by decide) _ _ _ (pay6_at (wblk X k.val)) x, ?_⟩
  refine List.forall_mem_cons.mpr ⟨fun x => slab_val 0 0 16 X k 2 _ (k0_off2_eq k 2) (by decide) (by decide) _ _ _ (pay5_at (wblk X k.val)) x, ?_⟩
  refine List.forall_mem_cons.mpr ⟨fun x => slab_val 0 0 8 X k 1 _ (k0_off2_eq k 1) (by decide) (by decide) _ _ _ (pay4_at (wblk X k.val)) x, ?_⟩
  refine List.forall_mem_cons.mpr ⟨fun x => slab_val 0 0 0 X k 0 _ (k0_off2_eq k 0) (by decide) (by decide) _ _ _ (pay3_at (wblk X k.val)) x, ?_⟩
  exact fun p hp => absurd hp List.not_mem_nil

theorem T7_at (X : S16384x128.Idx → Elt Ideal .i32) (y : S8704x128.Idx) (hy : (y 0).val % 136 < 128) : T7 X y = GT 1 X y := by
  refine View.canon_apply_of_pieces (GT 1 X) _ ?_ y (cov7 X y hy)
  refine forall_pb _ (fun p : View.Piece (Elt Ideal) _ .f32 => ∀ x : p.1.shape.Idx, p.2 x = GT 1 X (p.1.emb x)) (fun k => ?_) _
  rw [blk1_eq]
  unfold L7
  refine List.forall_mem_cons.mpr ⟨fun x => slab_val 1 1 24 X k 7 _ (k0_off2_eq k 7) (by decide) (by decide) _ _ _ (pay56_at (wblk X k.val)) x, ?_⟩
  refine List.forall_mem_cons.mpr ⟨fun x => slab_val 1 1 16 X k 6 _ (k0_off2_eq k 6) (by decide) (by decide) _ _ _ (pay55_at (wblk X k.val)) x, ?_⟩
  refine List.forall_mem_cons.mpr ⟨fun x => slab_val 1 1 8 X k 5 _ (k0_off2_eq k 5) (by decide) (by decide) _ _ _ (pay54_at (wblk X k.val)) x, ?_⟩
  refine List.forall_mem_cons.mpr ⟨fun x => slab_val 1 1 0 X k 4 _ (k0_off2_eq k 4) (by decide) (by decide) _ _ _ (pay22_at (wblk X k.val)) x, ?_⟩
  refine List.forall_mem_cons.mpr ⟨fun x => slab_val 1 0 24 X k 3 _ (k0_off2_eq k 3) (by decide) (by decide) _ _ _ (pay12_at (wblk X k.val)) x, ?_⟩
  refine List.forall_mem_cons.mpr ⟨fun x => slab_val 1 0 16 X k 2 _ (k0_off2_eq k 2) (by decide) (by decide) _ _ _ (pay11_at (wblk X k.val)) x, ?_⟩
  refine List.forall_mem_cons.mpr ⟨fun x => slab_val 1 0 8 X k 1 _ (k0_off2_eq k 1) (by decide) (by decide) _ _ _ (pay10_at (wblk X k.val)) x, ?_⟩
  refine List.forall_mem_cons.mpr ⟨fun x => slab_val 1 0 0 X k 0 _ (k0_off2_eq k 0) (by decide) (by decide) _ _ _ (pay9_at (wblk X k.val)) x, ?_⟩
  exact fun p hp => absurd hp List.not_mem_nil

/-- What the table of norms holds: of half `y 0` and group `y 1`, the norm of the candidate of lane `y 2`. -/
def GN (X : S16384x128.Idx → Elt Ideal .i32) (y : S2x128x128.Idx) : EReal :=
  tile (wblk X (y 1).val) (y 0).val (y 0).val ((y 2).val % 32) (y 2).val

theorem norm_val (h : ℕ) (X : S16384x128.Idx → Elt Ideal .i32) (k : Fin k0_t1_loop.trips) (off : Fin 3 → ℕ)
    (hoff : off = ![h, k.val, 0]) (inb) (P : S1x1x128.Idx → EReal)
    (hP : ∀ (a b : Fin 1) (l : Fin 128), P (ix3 a b l) = tile (wblk X k.val) h h (l.val % 32) l.val) (x : S1x1x128.Idx) :
    P x = GN X ((Rect.unit (s := S2x128x128) off S1x1x128.size inb).emb x) := by
  subst hoff
  obtain ⟨a, b, l, rfl⟩ : ∃ (a b : Fin 1) (l : Fin 128), x = ix3 a b l :=
    ⟨x 0, x 1, x 2, by funext c; match c with | 0 => rfl | 1 => rfl | 2 => rfl⟩
  rw [hP]
  have ha := a.isLt
  have hb := b.isLt
  unfold GN
  have e0 : (((Rect.unit (s := S2x128x128) ![h, k.val, 0] S1x1x128.size inb).emb (ix3 a b l)) 0).val = h + 1 * a.val := rfl
  have e1 : (((Rect.unit (s := S2x128x128) ![h, k.val, 0] S1x1x128.size inb).emb (ix3 a b l)) 1).val = k.val + 1 * b.val := rfl
  have e2 : (((Rect.unit (s := S2x128x128) ![h, k.val, 0] S1x1x128.size inb).emb (ix3 a b l)) 2).val = 0 + 1 * l.val := rfl
  rw [e0, e1, e2]
  have f0 : h + 1 * a.val = h := by omega
  have f1 : k.val + 1 * b.val = k.val := by omega
  rw [f0, f1, Nat.zero_add, Nat.one_mul]

theorem T8_at (X : S16384x128.Idx → Elt Ideal .i32) (y : S2x128x128.Idx) : T8 X y = GN X y := by
  refine View.canon_apply_of_pieces (GN X) _ ?_ y (cov8 X y)
  refine forall_pb _ (fun p : View.Piece (Elt Ideal) _ .f32 => ∀ x : p.1.shape.Idx, p.2 x = GN X (p.1.emb x)) (fun k => ?_) _
  rw [blk1_eq]
  unfold L8
  refine List.forall_mem_cons.mpr ⟨fun x => norm_val 1 X k (k0_off4 k) (k0_off4_eq k) (k0_off4_inb k) _ (pay57_at (wblk X k.val)) x, ?_⟩
  refine List.forall_mem_cons.mpr ⟨fun x => norm_val 0 X k (k0_off3 k) (k0_off3_eq k) (k0_off3_inb k) _ (pay7_at (wblk X k.val)) x, ?_⟩
  exact fun p hp => absurd hp List.not_mem_nil

end Cert.Proof.KernelIdeal
end
-- ==== Proof.KI.Value3.lean ====
/-
  The three tables of four planes between the two loops, read at a place: scales, squared norms and codes.
-/
module

public import proofs.«01_k».proof.Proof.KI.Value2

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.ShloMosaic.Pointwise

theorem pay60_at (w : Vec Ideal S56x128 .f32) (x : Fin 1) (i : Fin 56) (l : Fin 128) : k0_pay60 w (ix3 x i l) = w (ix2 i l) := by
  pointwise [k0_pay60]

theorem pay63_at (w : Vec Ideal S56x128 .f32) (x : Fin 1) (i : Fin 56) (l : Fin 128) : k0_pay63 w (ix3 x i l) = w (ix2 i l) := by
  pointwise [k0_pay63]

theorem pay68_at (w : Vec Ideal S56x128 .f32) (x : Fin 1) (i : Fin 56) (l : Fin 128) : k0_pay68 w (ix3 x i l) = w (ix2 i l) := by
  pointwise [k0_pay68]

theorem pay72_at (w : Vec Ideal S56x128 .f32) (x : Fin 1) (i : Fin 56) (l : Fin 128) : k0_pay72 w (ix3 x i l) = w (ix2 i l) := by
  pointwise [k0_pay72]

/-- The norm of candidate `i` of quarter `a`, of the two transposed halves of the table of norms. -/
def nrmAt (A B : Vec Ideal S1x128x128 .f32) (a : ℕ) (i l : ℕ) : EReal :=
  if i < 32 then A (ix3 (0 : Fin 1) (⟨l % 128, Nat.mod_lt _ (by decide)⟩ : Fin 128) (⟨(32 * a + i) % 128, Nat.mod_lt _ (by decide)⟩ : Fin 128))
  else B (ix3 (0 : Fin 1) (⟨l % 128, Nat.mod_lt _ (by decide)⟩ : Fin 128) (⟨(32 * a + (i - 32)) % 128, Nat.mod_lt _ (by decide)⟩ : Fin 128))

theorem pay61_at (A B : Vec Ideal S1x128x128 .f32) (w : Vec Ideal S56x128 .f32) (x : Fin 1) (i : Fin 56) (l : Fin 128) :
    k0_pay61 A B w (ix3 x i l) = w (ix2 i l) * w (ix2 i l) * nrmAt A B 0 i.val l.val := by
  pointwise [k0_pay61, k0_pay58, k0_pay59]
  refine congrArg (w (ix2 i l) * w (ix2 i l) * ·) ?_
  have hi := i.isLt
  have hl := l.isLt
  unfold nrmAt
  split_ifs with h
  · exact congrArg₂ (fun p q => A (ix3 (0 : Fin 1) p q)) (Fin.ext (by dsimp only; omega)) (Fin.ext (by dsimp only; omega))
  · exact congrArg₂ (fun p q => B (ix3 (0 : Fin 1) p q)) (Fin.ext (by dsimp only; omega)) (Fin.ext (by dsimp only; omega))
  · rename_i h2
    exact absurd rfl h2

theorem pay64_at (A B : Vec Ideal S1x128x128 .f32) (w : Vec Ideal S56x128 .f32) (x : Fin 1) (i : Fin 56) (l : Fin 128) :
    k0_pay64 (k0_pay58 A) (k0_pay59 B) w (ix3 x i l) = w (ix2 i l) * w (ix2 i l) * nrmAt A B 1 i.val l.val := by
  pointwise [k0_pay64, k0_pay58, k0_pay59]
  refine congrArg (w (ix2 i l) * w (ix2 i l) * ·) ?_
  have hi := i.isLt
  have hl := l.isLt
  unfold nrmAt
  split_ifs with h
  · exact congrArg₂ (fun p q => A (ix3 (0 : Fin 1) p q)) (Fin.ext (by dsimp only; omega)) (Fin.ext (by dsimp only; omega))
  · exact congrArg₂ (fun p q => B (ix3 (0 : Fin 1) p q)) (Fin.ext (by dsimp only; omega)) (Fin.ext (by dsimp only; omega))
  · rename_i h2
    exact absurd rfl h2

theorem pay69_at (A B : Vec Ideal S1x128x128 .f32) (w : Vec Ideal S56x128 .f32) (x : Fin 1) (i : Fin 56) (l : Fin 128) :
    k0_pay69 (k0_pay58 A) (k0_pay59 B) w (ix3 x i l) = w (ix2 i l) * w (ix2 i l) * nrmAt A B 2 i.val l.val := by
  pointwise [k0_pay69, k0_pay58, k0_pay59]
  refine congrArg (w (ix2 i l) * w (ix2 i l) * ·) ?_
  have hi := i.isLt
  have hl := l.isLt
  unfold nrmAt
  split_ifs with h
  · exact congrArg₂ (fun p q => A (ix3 (0 : Fin 1) p q)) (Fin.ext (by dsimp only; omega)) (Fin.ext (by dsimp only; omega))
  · exact congrArg₂ (fun p q => B (ix3 (0 : Fin 1) p q)) (Fin.ext (by dsimp only; omega)) (Fin.ext (by dsimp only; omega))
  · rename_i h2
    exact absurd rfl h2

theorem pay73_at (A B : Vec Ideal S1x128x128 .f32) (w : Vec Ideal S56x128 .f32) (x : Fin 1) (i : Fin 56) (l : Fin 128) :
    k0_pay73 (k0_pay58 A) (k0_pay59 B) w (ix3 x i l) = w (ix2 i l) * w (ix2 i l) * nrmAt A B 3 i.val l.val := by
  pointwise [k0_pay73, k0_pay58, k0_pay59]
  refine congrArg (w (ix2 i l) * w (ix2 i l) * ·) ?_
  have hi := i.isLt
  have hl := l.isLt
  unfold nrmAt
  split_ifs with h
  · exact congrArg₂ (fun p q => A (ix3 (0 : Fin 1) p q)) (Fin.ext (by dsimp only; omega)) (Fin.ext (by dsimp only; omega))
  · exact congrArg₂ (fun p q => B (ix3 (0 : Fin 1) p q)) (Fin.ext (by dsimp only; omega)) (Fin.ext (by dsimp only; omega))
  · rename_i h2
    exact absurd rfl h2

/-- The code of slot `i` against a count `u` and a count of new ones `v`. -/
def codeOf (i : ℕ) (u v : BitVec 32) : EReal :=
  Scalar.select (IntOp.cmpi CmpIPredicate.slt (BitVec.ofNat 32 i) u)
    (Scalar.select (IntOp.cmpi CmpIPredicate.slt (BitVec.ofNat 32 i) v) (Ideal.ofBits FTy.f32 0x40000000#32) 1)
    0

theorem pay62_at (U V : Vec Ideal S1x128 .i32) (x : Fin 1) (i : Fin 56) (l : Fin 128) :
    k0_pay62 (iota .tc S56x128 32 [0] iota_S56x128_d0_w32) U V (ix3 x i l) = codeOf i.val (U (ix2 (0 : Fin 1) l)) (V (ix2 (0 : Fin 1) l)) := by
  pointwise [k0_pay62]
  rfl

theorem pay67_at (U V : Vec Ideal S1x128 .i32) (x : Fin 1) (i : Fin 56) (l : Fin 128) :
    k0_pay67 (k0_pay65 U) (k0_pay66 V) (Scalar.ofBits (F := Ideal) .f32 0x40000000#32) (ix3 x i l) = codeOf i.val (U (ix2 (0 : Fin 1) l)) (V (ix2 (0 : Fin 1) l)) := by
  pointwise [k0_pay67, k0_pay65, k0_pay66]
  rfl

theorem pay71_at (U V : Vec Ideal S1x128 .i32) (x : Fin 1) (i : Fin 56) (l : Fin 128) :
    k0_pay71 (k0_pay70 U V) (ix3 x i l) = codeOf i.val (U (ix2 (0 : Fin 1) l)) (V (ix2 (0 : Fin 1) l)) := by
  pointwise [k0_pay71, k0_pay70]
  rfl

theorem pay74_at (U V : Vec Ideal S1x128 .i32) (x : Fin 1) (i : Fin 56) (l : Fin 128) :
    k0_pay74 U V (ix3 x i l) = codeOf i.val (U (ix2 (0 : Fin 1) l)) (V (ix2 (0 : Fin 1) l)) := by
  pointwise [k0_pay74]
  rfl

theorem ld_cols (X : S56x512.Idx → Elt Ideal .f32) (o : ℕ) (h) (i : Fin 56) (l : Fin 128) (ho : o + 128 ≤ 512) :
    View.ld X (Rect.unit (s := S56x512) ![0, o] S56x128.size h) (ix2 i l)
      = X (ix2 i (⟨(o + l.val) % 512, Nat.mod_lt _ (by decide)⟩ : Fin 512)) := by
  have hl := l.isLt
  refine congrArg X (funext fun a => Fin.ext ?_)
  match a with
  | 0 => show 0 + 1 * i.val = i.val; omega
  | 1 => show o + 1 * l.val = (o + l.val) % 512; omega

theorem ld_counts (X : S1x512.Idx → Elt Ideal .i32) (o : ℕ) (h) (l : Fin 128) (ho : o + 128 ≤ 512) :
    View.ld X (Rect.unit (s := S1x512) ![0, o] S1x128.size h) (ix2 (0 : Fin 1) l)
      = X (ix2 (0 : Fin 1) (⟨(o + l.val) % 512, Nat.mod_lt _ (by decide)⟩ : Fin 512)) := by
  have hl := l.isLt
  refine congrArg X (funext fun a => Fin.ext ?_)
  match a with
  | 0 => rfl
  | 1 => show o + 1 * l.val = (o + l.val) % 512; omega

theorem ld_norms (Y : S2x128x128.Idx → Elt Ideal .f32) (a : ℕ) (h) (x : Fin 1) (g p : Fin 128) (ha : a < 2) :
    nrm Y a h (ix3 x g p) = Y (ix3 (⟨a, ha⟩ : Fin 2) g p) := by
  have hx := x.isLt
  refine congrArg Y (funext fun b => Fin.ext ?_)
  match b with
  | 0 => show a + 1 * x.val = a; omega
  | 1 => show 0 + 1 * g.val = g.val; omega
  | 2 => show 0 + 1 * p.val = p.val; omega

/-- The scale of candidate `y 1` of lane `y 2` of plane `y 0`. -/
def G9 (X : S56x512.Idx → Elt Ideal .f32) (y : S4x56x128.Idx) : EReal :=
  X (ix2 (⟨(y 1).val, (y 1).isLt⟩ : Fin 56) (⟨(128 * (y 0).val + (y 2).val) % 512, Nat.mod_lt _ (by decide)⟩ : Fin 512))

/-- Its squared norm. -/
def G10 (X : S56x512.Idx → Elt Ideal .f32) (Y : S2x128x128.Idx → Elt Ideal .f32) (y : S4x56x128.Idx) : EReal :=
  G9 X y * G9 X y * Y (ix3 (⟨(y 1).val / 32 % 2, Nat.mod_lt _ (by decide)⟩ : Fin 2) (⟨(y 2).val, (y 2).isLt⟩ : Fin 128)
    (⟨(32 * (y 0).val + (y 1).val % 32) % 128, Nat.mod_lt _ (by decide)⟩ : Fin 128))

/-- Its code. -/
def G11 (U V : S1x512.Idx → Elt Ideal .i32) (y : S4x56x128.Idx) : EReal :=
  codeOf (y 1).val (U (ix2 (0 : Fin 1) (⟨(128 * (y 0).val + (y 2).val) % 512, Nat.mod_lt _ (by decide)⟩ : Fin 512)))
    (V (ix2 (0 : Fin 1) (⟨(128 * (y 0).val + (y 2).val) % 512, Nat.mod_lt _ (by decide)⟩ : Fin 512)))

/-- A plane stored whole, of a function of the table's place. -/
theorem plane_val (G : S4x56x128.Idx → EReal) (a : ℕ) (ha : a < 4) (inb) (P : S1x56x128.Idx → EReal)
    (hP : ∀ (x : Fin 1) (i : Fin 56) (l : Fin 128), P (ix3 x i l) = G (ix3 (⟨a, ha⟩ : Fin 4) i l)) (x : S1x56x128.Idx) :
    P x = G ((Rect.unit (s := S4x56x128) ![a, 0, 0] S1x56x128.size inb).emb x) := by
  obtain ⟨u, i, l, rfl⟩ : ∃ (u : Fin 1) (i : Fin 56) (l : Fin 128), x = ix3 u i l :=
    ⟨x 0, x 1, x 2, by funext c; match c with | 0 => rfl | 1 => rfl | 2 => rfl⟩
  have hu := u.isLt
  rw [hP]
  refine congrArg G (funext fun b => Fin.ext ?_)
  match b with
  | 0 => show a = a + 1 * u.val; omega
  | 1 => show i.val = 0 + 1 * i.val; omega
  | 2 => show l.val = 0 + 1 * l.val; omega

theorem nrmAt_eq (Y : S2x128x128.Idx → Elt Ideal .f32) (h0 h1) (a : ℕ) (i : Fin 56) (l : Fin 128) :
    nrmAt (nrm Y 0 h0) (nrm Y 1 h1) a i.val l.val
      = Y (ix3 (⟨i.val / 32 % 2, Nat.mod_lt _ (by decide)⟩ : Fin 2) l (⟨(32 * a + i.val % 32) % 128, Nat.mod_lt _ (by decide)⟩ : Fin 128)) := by
  have hi := i.isLt
  have hl := l.isLt
  unfold nrmAt
  split_ifs with h
  · rw [ld_norms Y 0 h0 _ _ _ (by decide)]
    refine congrArg Y ?_
    exact congr (congrArg₂ ix3 (Fin.ext (by dsimp only; omega)) (Fin.ext (by dsimp only; omega))) (Fin.ext (by dsimp only; omega))
  · rw [ld_norms Y 1 h1 _ _ _ (by decide)]
    refine congrArg Y ?_
    exact congr (congrArg₂ ix3 (Fin.ext (by dsimp only; omega)) (Fin.ext (by dsimp only; omega))) (Fin.ext (by dsimp only; omega))

theorem T9_at (X : S56x512.Idx → Elt Ideal .f32) (y : S4x56x128.Idx) : T9 X y = G9 X y := by
  refine View.canon_apply_of_pieces (Val := Elt Ideal) (e := .f32) (G9 X) (P9 X) ?_ y (by unfold P9; exact cov_planes _ _ _ _ y)
  unfold P9
  refine List.forall_mem_cons.mpr ⟨fun x => plane_val (G9 X) 3 (by decide) inb_S4x56x128_S1x56x128_3_0_0 _ (fun u i l => (pay72_at _ u i l).trans (ld_cols X 384 _ i l (by decide))) x, ?_⟩
  refine List.forall_mem_cons.mpr ⟨fun x => plane_val (G9 X) 2 (by decide) inb_S4x56x128_S1x56x128_2_0_0 _ (fun u i l => (pay68_at _ u i l).trans (ld_cols X 256 _ i l (by decide))) x, ?_⟩
  refine List.forall_mem_cons.mpr ⟨fun x => plane_val (G9 X) 1 (by decide) inb_S4x56x128_S1x56x128_1_0_0 _ (fun u i l => (pay63_at _ u i l).trans (ld_cols X 128 _ i l (by decide))) x, ?_⟩
  refine List.forall_mem_cons.mpr ⟨fun x => plane_val (G9 X) 0 (by decide) inb_S4x56x128_S1x56x128_0_0_0 _ (fun u i l => (pay60_at _ u i l).trans (ld_cols X 0 _ i l (by decide))) x, ?_⟩
  exact fun p hp => absurd hp List.not_mem_nil

theorem T10_at (X : S56x512.Idx → Elt Ideal .f32) (Y : S2x128x128.Idx → Elt Ideal .f32) (y : S4x56x128.Idx) : T10 X Y y = G10 X Y y := by
  refine View.canon_apply_of_pieces (Val := Elt Ideal) (e := .f32) (G10 X Y) (P10 X Y) ?_ y (by unfold P10; exact cov_planes _ _ _ _ y)
  unfold P10
  refine List.forall_mem_cons.mpr ⟨fun x => plane_val (G10 X Y) 3 (by decide) inb_S4x56x128_S1x56x128_3_0_0 _ (fun u i l => (pay73_at _ _ _ u i l).trans (congrArg₂ (fun s n : EReal => s * s * n) (ld_cols X 384 _ i l (by decide)) (nrmAt_eq Y _ _ 3 i l))) x, ?_⟩
  refine List.forall_mem_cons.mpr ⟨fun x => plane_val (G10 X Y) 2 (by decide) inb_S4x56x128_S1x56x128_2_0_0 _ (fun u i l => (pay69_at _ _ _ u i l).trans (congrArg₂ (fun s n : EReal => s * s * n) (ld_cols X 256 _ i l (by decide)) (nrmAt_eq Y _ _ 2 i l))) x, ?_⟩
  refine List.forall_mem_cons.mpr ⟨fun x => plane_val (G10 X Y) 1 (by decide) inb_S4x56x128_S1x56x128_1_0_0 _ (fun u i l => (pay64_at _ _ _ u i l).trans (congrArg₂ (fun s n : EReal => s * s * n) (ld_cols X 128 _ i l (by decide)) (nrmAt_eq Y _ _ 1 i l))) x, ?_⟩
  refine List.forall_mem_cons.mpr ⟨fun x => plane_val (G10 X Y) 0 (by decide) inb_S4x56x128_S1x56x128_0_0_0 _ (fun u i l => (pay61_at _ _ _ u i l).trans (congrArg₂ (fun s n : EReal => s * s * n) (ld_cols X 0 _ i l (by decide)) (nrmAt_eq Y _ _ 0 i l))) x, ?_⟩
  exact fun p hp => absurd hp List.not_mem_nil

theorem T11_at (U V : S1x512.Idx → Elt Ideal .i32) (y : S4x56x128.Idx) : T11 U V y = G11 U V y := by
  refine View.canon_apply_of_pieces (Val := Elt Ideal) (e := .f32) (G11 U V) (P11 U V) ?_ y (by unfold P11; exact cov_planes _ _ _ _ y)
  unfold P11
  refine List.forall_mem_cons.mpr ⟨fun x => plane_val (G11 U V) 3 (by decide) inb_S4x56x128_S1x56x128_3_0_0 _ (fun u i l => (pay74_at _ _ u i l).trans (congrArg₂ (codeOf i.val) (ld_counts U 384 _ l (by decide)) (ld_counts V 384 _ l (by decide)))) x, ?_⟩
  refine List.forall_mem_cons.mpr ⟨fun x => plane_val (G11 U V) 2 (by decide) inb_S4x56x128_S1x56x128_2_0_0 _ (fun u i l => (pay71_at _ _ u i l).trans (congrArg₂ (codeOf i.val) (ld_counts U 256 _ l (by decide)) (ld_counts V 256 _ l (by decide)))) x, ?_⟩
  refine List.forall_mem_cons.mpr ⟨fun x => plane_val (G11 U V) 1 (by decide) inb_S4x56x128_S1x56x128_1_0_0 _ (fun u i l => (pay67_at _ _ u i l).trans (congrArg₂ (codeOf i.val) (ld_counts U 128 _ l (by decide)) (ld_counts V 128 _ l (by decide)))) x, ?_⟩
  refine List.forall_mem_cons.mpr ⟨fun x => plane_val (G11 U V) 0 (by decide) inb_S4x56x128_S1x56x128_0_0_0 _ (fun u i l => (pay62_at _ _ u i l).trans (congrArg₂ (codeOf i.val) (ld_counts U 0 _ l (by decide)) (ld_counts V 0 _ l (by decide)))) x, ?_⟩
  exact fun p hp => absurd hp List.not_mem_nil

end Cert.Proof.KernelIdeal
end
-- ==== Proof.KI.Value4.lean ====
/-
  The second loop: the block of masked distances, read at a place.
-/
module

public import proofs.«01_k».proof.Proof.KI.Value3

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.ShloMosaic.Pointwise

/-- The masked distance of two candidates: squared norms `qi`, `qj`, scales `si`, `sj`, codes `ci`, `cj`, inner product `g`. -/
def dst (qi qj si sj ci cj g : EReal) : EReal :=
  Scalar.select (FloatOps.cmpf (F := Ideal) (φ := .f32) .oge (ci * cj) (Ideal.ofBits FTy.f32 0x40000000#32))
    (qi + qj - Ideal.ofBits FTy.f32 0x40000000#32 * si * sj * g) (Ideal.ofBits FTy.f32 0xBF800000#32)

theorem pay75_at (w : Vec Ideal S128x128 .f32) (q s c : Vec Ideal S1x1x128 .f32) (Q S C : Vec Ideal S1x24x128 .f32)
    (x : Fin 1) (j : Fin 24) (l : Fin 128) :
    k0_pay75 (k0_pay46 (k0_pay33 w)) (k0_pay47 q) (k0_pay48 s) (k0_pay49 c) Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨96 + j.val, by omega⟩ : Fin 128))) := by
  unfold dst
  pointwise [k0_pay75, k0_pay46, k0_pay33, k0_pay47, k0_pay48, k0_pay49]

theorem pay45_at (w : Vec Ideal S128x128 .f32) (q s c : Vec Ideal S1x1x128 .f32) (Q S C : Vec Ideal S1x24x128 .f32)
    (x : Fin 1) (j : Fin 24) (l : Fin 128) :
    k0_pay45 (k0_pay42 (k0_pay33 w)) (k0_pay43 q) (k0_pay44 s) c Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨64 + j.val, by omega⟩ : Fin 128))) := by
  unfold dst
  pointwise [k0_pay45, k0_pay42, k0_pay33, k0_pay43, k0_pay44]

theorem pay41_at (w : Vec Ideal S128x128 .f32) (q s c : Vec Ideal S1x1x128 .f32) (Q S C : Vec Ideal S1x24x128 .f32)
    (x : Fin 1) (j : Fin 24) (l : Fin 128) :
    k0_pay41 (k0_pay37 (k0_pay33 w)) (k0_pay38 q) (k0_pay39 s) k0_pay40 c Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨32 + j.val, by omega⟩ : Fin 128))) := by
  unfold dst
  pointwise [k0_pay41, k0_pay37, k0_pay33, k0_pay38, k0_pay39, k0_pay40]

theorem pay36_at (w : Vec Ideal S128x128 .f32) (q s c : Vec Ideal S1x1x128 .f32) (Q S C : Vec Ideal S1x24x128 .f32)
    (x : Fin 1) (j : Fin 24) (l : Fin 128) :
    k0_pay36 (k0_pay34 w) (k0_pay35 q) s c Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨0 + j.val, by omega⟩ : Fin 128))) := by
  unfold dst
  pointwise [k0_pay36, k0_pay34, k0_pay33, k0_pay35]

theorem pay32_at (w : Vec Ideal S128x128 .f32) (q s c : Vec Ideal S1x1x128 .f32) (Q S C : Vec Ideal S1x32x128 .f32)
    (x : Fin 1) (j : Fin 32) (l : Fin 128) :
    k0_pay32 (k0_pay30 (k0_pay24 w)) (k0_pay31 q) s c Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨96 + j.val, by omega⟩ : Fin 128))) := by
  unfold dst
  pointwise [k0_pay32, k0_pay30, k0_pay24, k0_pay31]

theorem pay29_at (w : Vec Ideal S128x128 .f32) (q s c : Vec Ideal S1x1x128 .f32) (Q S C : Vec Ideal S1x32x128 .f32)
    (x : Fin 1) (j : Fin 32) (l : Fin 128) :
    k0_pay29 (k0_pay28 (k0_pay24 w)) q s c Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨64 + j.val, by omega⟩ : Fin 128))) := by
  unfold dst
  pointwise [k0_pay29, k0_pay28, k0_pay24]

theorem pay27_at (w : Vec Ideal S128x128 .f32) (q s c : Vec Ideal S1x1x128 .f32) (Q S C : Vec Ideal S1x32x128 .f32)
    (x : Fin 1) (j : Fin 32) (l : Fin 128) :
    k0_pay27 (k0_pay24 w) q s c Q S C (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨32 + j.val, by omega⟩ : Fin 128))) := by
  unfold dst
  pointwise [k0_pay27, k0_pay24]

theorem pay26_at (w : Vec Ideal S128x128 .f32) (q s c : Vec Ideal S1x1x128 .f32) (Q S C : Vec Ideal S1x32x128 .f32)
    (x : Fin 1) (j : Fin 32) (l : Fin 128) :
    k0_pay26 (k0_pay25 w q s c Q S C) (ix3 x j l)
      = dst (q (ix3 (0 : Fin 1) (0 : Fin 1) l)) (Q (ix3 (0 : Fin 1) j l)) (s (ix3 (0 : Fin 1) (0 : Fin 1) l)) (S (ix3 (0 : Fin 1) j l))
          (c (ix3 (0 : Fin 1) (0 : Fin 1) l)) (C (ix3 (0 : Fin 1) j l)) (w (ix2 l (⟨0 + j.val, by omega⟩ : Fin 128))) := by
  unfold dst
  pointwise [k0_pay26, k0_pay25, k0_pay24]

/-- A place of a table of four planes, and of a plane of products, of numbers. -/
def pl (a i l : ℕ) : S4x56x128.Idx :=
  ix3 (⟨a % 4, Nat.mod_lt _ (by decide)⟩ : Fin 4) (⟨i % 56, Nat.mod_lt _ (by decide)⟩ : Fin 56) (⟨l % 128, Nat.mod_lt _ (by decide)⟩ : Fin 128)
def pq (r l : ℕ) : S8704x128.Idx :=
  ix2 (⟨r % 8704, Nat.mod_lt _ (by decide)⟩ : Fin 8704) (⟨l % 128, Nat.mod_lt _ (by decide)⟩ : Fin 128)

theorem eq_pl (y : S4x56x128.Idx) (a i l : ℕ) (h0 : (y 0).val = a) (h1 : (y 1).val = i) (h2 : (y 2).val = l) : y = pl a i l := by
  have l0 : (y 0).val < 4 := (y 0).isLt
  have l1 : (y 1).val < 56 := (y 1).isLt
  have l2 : (y 2).val < 128 := (y 2).isLt
  funext c
  apply Fin.ext
  match c with
  | 0 => show (y 0).val = a % 4; omega
  | 1 => show (y 1).val = i % 56; omega
  | 2 => show (y 2).val = l % 128; omega

theorem eq_pq (y : S8704x128.Idx) (r l : ℕ) (h0 : (y 0).val = r) (h1 : (y 1).val = l) : y = pq r l := by
  have l0 : (y 0).val < 8704 := (y 0).isLt
  have l1 : (y 1).val < 128 := (y 1).isLt
  funext c
  apply Fin.ext
  match c with
  | 0 => show (y 0).val = r % 8704; omega
  | 1 => show (y 1).val = l % 128; omega

theorem ld_row (Y : S4x56x128.Idx → Elt Ideal .f32) (a i : ℕ) (off : Fin 3 → ℕ) (hoff : off = ![a, i, 0]) (h) (l : Fin 128) :
    rowOf Y off h (ix3 (0 : Fin 1) (0 : Fin 1) l) = Y (pl a i l.val) := by
  subst hoff
  refine congrArg Y (eq_pl _ _ _ _ ?_ ?_ ?_)
  · show a + 1 * 0 = a; omega
  · show i + 1 * 0 = i; omega
  · show 0 + 1 * l.val = l.val; omega

theorem ld_rows32 (Y : S4x56x128.Idx → Elt Ideal .f32) (a : ℕ) (h) (j : Fin 32) (l : Fin 128) :
    View.ld Y (Rect.unit (s := S4x56x128) ![a, 0, 0] S1x32x128.size h) (ix3 (0 : Fin 1) j l) = Y (pl a j.val l.val) := by
  refine congrArg Y (eq_pl _ _ _ _ ?_ ?_ ?_)
  · show a + 1 * 0 = a; omega
  · show 0 + 1 * j.val = j.val; omega
  · show 0 + 1 * l.val = l.val; omega

theorem ld_rows24 (Y : S4x56x128.Idx → Elt Ideal .f32) (a : ℕ) (h) (j : Fin 24) (l : Fin 128) :
    View.ld Y (Rect.unit (s := S4x56x128) ![a, 32, 0] S1x24x128.size h) (ix3 (0 : Fin 1) j l) = Y (pl a (32 + j.val) l.val) := by
  refine congrArg Y (eq_pl _ _ _ _ ?_ ?_ ?_)
  · show a + 1 * 0 = a; omega
  · show 32 + 1 * j.val = 32 + j.val; omega
  · show 0 + 1 * l.val = l.val; omega

theorem ld_sq (Y : S8704x128.Idx → Elt Ideal .f32) (k : Fin k0_t2_loop.trips) (l p : Fin 128) :
    sq Y k (ix2 l p) = Y (pq (136 * k.val + l.val) p.val) := by
  refine congrArg Y (eq_pq _ _ _ ?_ ?_)
  · show k0_off5 k 0 + 1 * l.val = _
    rw [k0_off5_eq]
    show 136 * k.val + 1 * l.val = _
    omega
  · show k0_off5 k 1 + 1 * p.val = _
    rw [k0_off5_eq]
    show 0 + 1 * p.val = _
    omega

/-- The masked distance of candidates `i` and `j` of lane `l` of quarter `a`, of the tables. -/
def dstOf (Y9 Y10 Y11 : S4x56x128.Idx → Elt Ideal .f32) (a i j l : ℕ) (g : EReal) : EReal :=
  dst (Y10 (pl a i l)) (Y10 (pl a j l)) (Y9 (pl a i l)) (Y9 (pl a j l)) (Y11 (pl a i l)) (Y11 (pl a j l)) g

/-- What the block holds at a place, of the two planes of products and the tables. -/
def GD (Y6 Y7 : S8704x128.Idx → Elt Ideal .f32) (Y9 Y10 Y11 : S4x56x128.Idx → Elt Ideal .f32) (y : S56x56x512.Idx) : EReal :=
  dstOf Y9 Y10 Y11 ((y 2).val / 128) (y 0).val (y 1).val ((y 2).val % 128)
    (if (y 1).val < 32 then Y6 (pq (136 * (y 0).val + (y 2).val % 128) (32 * ((y 2).val / 128) + (y 1).val))
      else Y7 (pq (136 * (y 0).val + (y 2).val % 128) (32 * ((y 2).val / 128) + ((y 1).val - 32))))

section
variable (Y6 Y7 : S8704x128.Idx → Elt Ideal .f32) (Y9 Y10 Y11 : S4x56x128.Idx → Elt Ideal .f32)

theorem dist32 (k : Fin k0_t2_loop.trips) (a : ℕ) (off : Fin 3 → ℕ) (hoff : off = ![k.val, 0, 128 * a]) (inb)
    (P : S1x32x128.Idx → EReal) (hP : ∀ (x : Fin 1) (j : Fin 32) (l : Fin 128), P (ix3 x j l)
      = dstOf Y9 Y10 Y11 a k.val j.val l.val (Y6 (pq (136 * k.val + l.val) (32 * a + j.val)))) (x : S1x32x128.Idx) :
    P x = GD Y6 Y7 Y9 Y10 Y11 ((Rect.unit (s := S56x56x512) off S1x32x128.size inb).emb x) := by
  subst hoff
  obtain ⟨u, j, l, rfl⟩ : ∃ (u : Fin 1) (j : Fin 32) (l : Fin 128), x = ix3 u j l :=
    ⟨x 0, x 1, x 2, by funext c; match c with | 0 => rfl | 1 => rfl | 2 => rfl⟩
  have hu := u.isLt
  have hj := j.isLt
  have hl := l.isLt
  rw [hP]
  unfold GD
  have e0 : (((Rect.unit (s := S56x56x512) ![k.val, 0, 128 * a] S1x32x128.size inb).emb (ix3 u j l)) 0).val = k.val + 1 * u.val := rfl
  have e1 : (((Rect.unit (s := S56x56x512) ![k.val, 0, 128 * a] S1x32x128.size inb).emb (ix3 u j l)) 1).val = 0 + 1 * j.val := rfl
  have e2 : (((Rect.unit (s := S56x56x512) ![k.val, 0, 128 * a] S1x32x128.size inb).emb (ix3 u j l)) 2).val = 128 * a + 1 * l.val := rfl
  rw [e0, e1, e2]
  have f0 : k.val + 1 * u.val = k.val := by omega
  have f1 : 0 + 1 * j.val = j.val := by omega
  have f2 : (128 * a + 1 * l.val) / 128 = a := by omega
  have f3 : (128 * a + 1 * l.val) % 128 = l.val := by omega
  rw [f0, f1, f2, f3, if_pos hj]

theorem dist24 (k : Fin k0_t2_loop.trips) (a : ℕ) (off : Fin 3 → ℕ) (hoff : off = ![k.val, 32, 128 * a]) (inb)
    (P : S1x24x128.Idx → EReal) (hP : ∀ (x : Fin 1) (j : Fin 24) (l : Fin 128), P (ix3 x j l)
      = dstOf Y9 Y10 Y11 a k.val (32 + j.val) l.val (Y7 (pq (136 * k.val + l.val) (32 * a + j.val)))) (x : S1x24x128.Idx) :
    P x = GD Y6 Y7 Y9 Y10 Y11 ((Rect.unit (s := S56x56x512) off S1x24x128.size inb).emb x) := by
  subst hoff
  obtain ⟨u, j, l, rfl⟩ : ∃ (u : Fin 1) (j : Fin 24) (l : Fin 128), x = ix3 u j l :=
    ⟨x 0, x 1, x 2, by funext c; match c with | 0 => rfl | 1 => rfl | 2 => rfl⟩
  have hu := u.isLt
  have hj := j.isLt
  have hl := l.isLt
  rw [hP]
  unfold GD
  have e0 : (((Rect.unit (s := S56x56x512) ![k.val, 32, 128 * a] S1x24x128.size inb).emb (ix3 u j l)) 0).val = k.val + 1 * u.val := rfl
  have e1 : (((Rect.unit (s := S56x56x512) ![k.val, 32, 128 * a] S1x24x128.size inb).emb (ix3 u j l)) 1).val = 32 + 1 * j.val := rfl
  have e2 : (((Rect.unit (s := S56x56x512) ![k.val, 32, 128 * a] S1x24x128.size inb).emb (ix3 u j l)) 2).val = 128 * a + 1 * l.val := rfl
  rw [e0, e1, e2]
  have f0 : k.val + 1 * u.val = k.val := by omega
  have f1 : 32 + 1 * j.val = 32 + j.val := by omega
  have f2 : (128 * a + 1 * l.val) / 128 = a := by omega
  have f3 : (128 * a + 1 * l.val) % 128 = l.val := by omega
  have f4 : 32 + j.val - 32 = j.val := by omega
  rw [f0, f1, f2, f3, f4, if_neg (by omega)]

theorem dst_congr {a a' b b' c c' d d' e e' f f' g g' : EReal} (h1 : a = a') (h2 : b = b') (h3 : c = c') (h4 : d = d') (h5 : e = e')
    (h6 : f = f') (h7 : g = g') : dst a b c d e f g = dst a' b' c' d' e' f' g' := by
  subst h1 h2 h3 h4 h5 h6 h7; rfl

theorem LT2_val (k : Fin k0_t2_loop.trips) : ∀ p ∈ LT2 Y6 Y7 Y9 Y10 Y11 k, ∀ x : p.1.shape.Idx,
    p.2 x = GD Y6 Y7 Y9 Y10 Y11 (p.1.emb x) := by
  unfold LT2
  refine List.forall_mem_cons.mpr ⟨fun x => dist24 Y6 Y7 Y9 Y10 Y11 k 3 (k0_off17 k) (k0_off17_eq k) (k0_off17_inb k) _ (fun u j l =>
    (pay75_at (sq Y7 k) _ _ _ _ _ _ u j l).trans (dst_congr (ld_row Y10 3 k.val _ (k0_off12_eq k) _ l) (ld_rows24 Y10 3 _ j l)
      (ld_row Y9 3 k.val _ (k0_off12_eq k) _ l) (ld_rows24 Y9 3 _ j l) (ld_row Y11 3 k.val _ (k0_off12_eq k) _ l)
      (ld_rows24 Y11 3 _ j l) (ld_sq Y7 k l _))) x, ?_⟩
  refine List.forall_mem_cons.mpr ⟨fun x => dist24 Y6 Y7 Y9 Y10 Y11 k 2 (k0_off16 k) (k0_off16_eq k) (k0_off16_inb k) _ (fun u j l =>
    (pay45_at (sq Y7 k) _ _ _ _ _ _ u j l).trans (dst_congr (ld_row Y10 2 k.val _ (k0_off10_eq k) _ l) (ld_rows24 Y10 2 _ j l)
      (ld_row Y9 2 k.val _ (k0_off10_eq k) _ l) (ld_rows24 Y9 2 _ j l) (ld_row Y11 2 k.val _ (k0_off10_eq k) _ l)
      (ld_rows24 Y11 2 _ j l) (ld_sq Y7 k l _))) x, ?_⟩
  refine List.forall_mem_cons.mpr ⟨fun x => dist24 Y6 Y7 Y9 Y10 Y11 k 1 (k0_off15 k) (k0_off15_eq k) (k0_off15_inb k) _ (fun u j l =>
    (pay41_at (sq Y7 k) _ _ _ _ _ _ u j l).trans (dst_congr (ld_row Y10 1 k.val _ (k0_off8_eq k) _ l) (ld_rows24 Y10 1 _ j l)
      (ld_row Y9 1 k.val _ (k0_off8_eq k) _ l) (ld_rows24 Y9 1 _ j l) (ld_row Y11 1 k.val _ (k0_off8_eq k) _ l)
      (ld_rows24 Y11 1 _ j l) (ld_sq Y7 k l _))) x, ?_⟩
  refine List.forall_mem_cons.mpr ⟨fun x => dist24 Y6 Y7 Y9 Y10 Y11 k 0 (k0_off14 k) (k0_off14_eq k) (k0_off14_inb k) _ (fun u j l =>
    (pay36_at (sq Y7 k) _ _ _ _ _ _ u j l).trans (dst_congr (ld_row Y10 0 k.val _ (k0_off6_eq k) _ l) (ld_rows24 Y10 0 _ j l)
      (ld_row Y9 0 k.val _ (k0_off6_eq k) _ l) (ld_rows24 Y9 0 _ j l) (ld_row Y11 0 k.val _ (k0_off6_eq k) _ l)
      (ld_rows24 Y11 0 _ j l) (ld_sq Y7 k l _))) x, ?_⟩
  refine List.forall_mem_cons.mpr ⟨fun x => dist32 Y6 Y7 Y9 Y10 Y11 k 3 (k0_off13 k) (k0_off13_eq k) (k0_off13_inb k) _ (fun u j l =>
    (pay32_at (sq Y6 k) _ _ _ _ _ _ u j l).trans (dst_congr (ld_row Y10 3 k.val _ (k0_off12_eq k) _ l) (ld_rows32 Y10 3 _ j l)
      (ld_row Y9 3 k.val _ (k0_off12_eq k) _ l) (ld_rows32 Y9 3 _ j l) (ld_row Y11 3 k.val _ (k0_off12_eq k) _ l)
      (ld_rows32 Y11 3 _ j l) (ld_sq Y6 k l _))) x, ?_⟩
  refine List.forall_mem_cons.mpr ⟨fun x => dist32 Y6 Y7 Y9 Y10 Y11 k 2 (k0_off11 k) (k0_off11_eq k) (k0_off11_inb k) _ (fun u j l =>
    (pay29_at (sq Y6 k) _ _ _ _ _ _ u j l).trans (dst_congr (ld_row Y10 2 k.val _ (k0_off10_eq k) _ l) (ld_rows32 Y10 2 _ j l)
      (ld_row Y9 2 k.val _ (k0_off10_eq k) _ l) (ld_rows32 Y9 2 _ j l) (ld_row Y11 2 k.val _ (k0_off10_eq k) _ l)
      (ld_rows32 Y11 2 _ j l) (ld_sq Y6 k l _))) x, ?_⟩
  refine List.forall_mem_cons.mpr ⟨fun x => dist32 Y6 Y7 Y9 Y10 Y11 k 1 (k0_off9 k) (k0_off9_eq k) (k0_off9_inb k) _ (fun u j l =>
    (pay27_at (sq Y6 k) _ _ _ _ _ _ u j l).trans (dst_congr (ld_row Y10 1 k.val _ (k0_off8_eq k) _ l) (ld_rows32 Y10 1 _ j l)
      (ld_row Y9 1 k.val _ (k0_off8_eq k) _ l) (ld_rows32 Y9 1 _ j l) (ld_row Y11 1 k.val _ (k0_off8_eq k) _ l)
      (ld_rows32 Y11 1 _ j l) (ld_sq Y6 k l _))) x, ?_⟩
  refine List.forall_mem_cons.mpr ⟨fun x => dist32 Y6 Y7 Y9 Y10 Y11 k 0 (k0_off7 k) (k0_off7_eq k) (k0_off7_inb k) _ (fun u j l =>
    (pay26_at (sq Y6 k) _ _ _ _ _ _ u j l).trans (dst_congr (ld_row Y10 0 k.val _ (k0_off6_eq k) _ l) (ld_rows32 Y10 0 _ j l)
      (ld_row Y9 0 k.val _ (k0_off6_eq k) _ l) (ld_rows32 Y9 0 _ j l) (ld_row Y11 0 k.val _ (k0_off6_eq k) _ l)
      (ld_rows32 Y11 0 _ j l) (ld_sq Y6 k l _))) x, ?_⟩
  exact fun p hp => absurd hp List.not_mem_nil

end

/-- The product the block takes at a place. -/
def GP (X1 : S16384x128.Idx → Elt Ideal .i32) (a i j l : ℕ) : EReal :=
  tile (wblk X1 l) (i / 32) (j / 32) (i % 32) (32 * a + j % 32)

/-- The block at a place, of the four blocks the kernel reads. -/
theorem OUT_at (X1 : S16384x128.Idx → Elt Ideal .i32) (X2 : S56x512.Idx → Elt Ideal .f32) (X3 X4 : S1x512.Idx → Elt Ideal .i32)
    (y : S56x56x512.Idx) : OUT X1 X2 X3 X4 y
      = dstOf (G9 X2) (G10 X2 (GN X1)) (G11 X3 X4) ((y 2).val / 128) (y 0).val (y 1).val ((y 2).val % 128)
          (GP X1 ((y 2).val / 128) (y 0).val (y 1).val ((y 2).val % 128)) := by
  have e8 : T8 X1 = GN X1 := funext (T8_at X1)
  have e9 : T9 X2 = G9 X2 := funext (T9_at X2)
  have e10 : T10 X2 (T8 X1) = G10 X2 (GN X1) := by rw [e8]; exact funext (T10_at X2 (GN X1))
  have e11 : T11 X3 X4 = G11 X3 X4 := funext (T11_at X3 X4)
  have l0 : (y 0).val < 56 := (y 0).isLt
  have l1 : (y 1).val < 56 := (y 1).isLt
  have l2 : (y 2).val < 512 := (y 2).isLt
  refine (View.canon_apply_of_pieces (Val := Elt Ideal) (e := .f32) (GD (T6 X1) (T7 X1) (T9 X2) (T10 X2 (T8 X1)) (T11 X3 X4)) _
    (forall_pb2 _ (fun p : View.Piece (Elt Ideal) S56x56x512 .f32 => ∀ x : p.1.shape.Idx, p.2 x
      = GD (T6 X1) (T7 X1) (T9 X2) (T10 X2 (T8 X1)) (T11 X3 X4) (p.1.emb x)) (fun k => LT2_val _ _ _ _ _ k) _) y (covOut _ _ _ _ _ y)).trans ?_
  rw [e10, e9, e11]
  unfold GD GP
  refine congrArg (dstOf _ _ _ _ _ _ _) ?_
  have hr : ∀ c, ((pq (136 * (y 0).val + (y 2).val % 128) c) 0).val = 136 * (y 0).val + (y 2).val % 128 := by
    intro c
    show (136 * (y 0).val + (y 2).val % 128) % 8704 = _
    omega
  have f1 : (136 * (y 0).val + (y 2).val % 128) % 136 = (y 2).val % 128 := by omega
  have f2 : (136 * (y 0).val + (y 2).val % 128) / 136 = (y 0).val := by omega
  split_ifs with h
  · rw [T6_at X1 _ (by rw [hr]; omega)]
    unfold GT
    rw [hr, f1, f2]
    refine congrArg₂ (fun e c => tile (wblk X1 ((y 2).val % 128)) ((y 0).val / 32) e ((y 0).val % 32) c) ?_ ?_
    · omega
    · show (32 * ((y 2).val / 128) + (y 1).val) % 128 = _
      omega
  · rw [T7_at X1 _ (by rw [hr]; omega)]
    unfold GT
    rw [hr, f1, f2]
    refine congrArg₂ (fun e c => tile (wblk X1 ((y 2).val % 128)) ((y 0).val / 32) e ((y 0).val % 32) c) ?_ ?_
    · omega
    · show (32 * ((y 2).val / 128) + ((y 1).val - 32)) % 128 = _
      omega

end Cert.Proof.KernelIdeal
end
-- ==== Proof.KI.Value5.lean ====
/-
  The blocks the kernel reads, as elements of the arguments, and the array it leaves, at a place.
-/
module

public import proofs.«01_k».proof.Proof.KI.Value4
public import proofs.«01_k».proof.Proof.KI.Frame
public import Idealize.ShloMosaic.Lib.Pipeline.ValueKit
public import Idealize.ShloMosaic.Lib.StableHlo.ReadAt

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.ShloMosaic.Pointwise
open Idealize.SL.Sem

variable (m : (ℓ : Loc nD τ sig) → Buf (Elt Ideal) ℓ) (c : Dev nD)

theorem idx_all : ∀ t : Fin cfg0.N, (cfg0.win 0).index t = ![t.val, 0] ∧ (cfg0.win 1).index t = ![0, t.val]
    ∧ (cfg0.win 2).index t = ![0, t.val] ∧ (cfg0.win 3).index t = ![0, t.val] ∧ (cfg0.win 4).index t = ![0, 0, t.val] := by
  decide +kernel

theorem V2_at (r : Fin 65536) (l : Fin 128) :
    (V m c main_v2 : S65536x128.Idx → BitVec 32) (ix2 r l) = m ((c.tc : Thread nD τ).loc main_arg0) (ix2 (⟨2 * r.val + l.val / 64, by omega⟩ : Fin 131072) (⟨l.val % 64, by omega⟩ : Fin 64)) := by
  unfold V V0
  after_reads_at
  have e : r.val * 2 + l.val / 64 = 2 * r.val + l.val / 64 := by omega
  simp only [e]

theorem V3_at (x : Fin 1) (b : Fin 2048) (hb : b.val < 2000) :
    (V m c main_v3 : S1x2048.Idx → BitVec 32) (ix2 x b) = m ((c.tc : Thread nD τ).loc main_arg2) (ix1 (⟨b.val, hb⟩ : Fin 2000)) := by
  unfold V V0
  after_reads_at
  rw [dif_pos hb]

theorem V4_at (x : Fin 1) (b : Fin 2048) (hb : b.val < 2000) :
    (V m c main_v4 : S1x2048.Idx → BitVec 32) (ix2 x b) = m ((c.tc : Thread nD τ).loc main_arg3) (ix1 (⟨b.val, hb⟩ : Fin 2000)) := by
  unfold V V0
  after_reads_at
  rw [dif_pos hb]

theorem in0_at (t : Fin cfg0.N) (r : Fin 16384) (l : Fin 128) : in0 m c t (ix2 r l) =
    (V m c main_v2 : S65536x128.Idx → BitVec 32) (ix2 (⟨(t.val * 16384 + r.val) % 65536, Nat.mod_lt _ (by decide)⟩ : Fin 65536) l) := by
  have ht : t.val < 4 := t.isLt
  unfold in0
  blk_ext [iblk, (idx_all t).1]

theorem in1_at (t : Fin cfg0.N) (r : Fin 56) (l : Fin 512) : in1 m c t (ix2 r l) =
    m ((c.tc : Thread nD τ).loc main_arg1) (ix2 r (⟨(t.val * 512 + l.val) % 2048, Nat.mod_lt _ (by decide)⟩ : Fin 2048)) := by
  have ht : t.val < 4 := t.isLt
  unfold in1
  blk_ext [iblk, V_main_arg1, (idx_all t).2.1]

theorem in2_at (t : Fin cfg0.N) (x : Fin 1) (l : Fin 512) : in2 m c t (ix2 x l) =
    (V m c main_v3 : S1x2048.Idx → BitVec 32) (ix2 x (⟨(t.val * 512 + l.val) % 2048, Nat.mod_lt _ (by decide)⟩ : Fin 2048)) := by
  have ht : t.val < 4 := t.isLt
  unfold in2
  blk_ext [iblk, (idx_all t).2.2.1]

theorem in3_at (t : Fin cfg0.N) (x : Fin 1) (l : Fin 512) : in3 m c t (ix2 x l) =
    (V m c main_v4 : S1x2048.Idx → BitVec 32) (ix2 x (⟨(t.val * 512 + l.val) % 2048, Nat.mod_lt _ (by decide)⟩ : Fin 2048)) := by
  have ht : t.val < 4 := t.isLt
  unfold in3
  blk_ext [iblk, (idx_all t).2.2.2.1]

theorem arr_eq (G : S56x56x2000.Idx → EReal)
    (hG : ∀ (t : Fin cfg0.N) (y : S56x56x512.Idx) (z : S56x56x2000.Idx) (h0 : (z 0).val = (y 0).val) (h1 : (z 1).val = (y 1).val)
      (h2 : (z 2).val = t.val * 512 + (y 2).val), outAt m c t y = G z) :
    (dats m 0 c).arrAt 4 cfg0.N = G := by
  refine (dats m 0 c).arrAt_eq_of_covers 4 _ (by decide +kernel) fun t hf y => ?_
  blk_simp
  rw [after0_4]
  have e := (idx_all t).2.2.2.2
  refine hG t _ _ ?_ ?_ ?_
  · refine (Pipeline.Window.rect_emb_val ..).trans ?_
    rw [show win0_4.index t = ![0, 0, t.val] from e]
    exact (congrArg (· + _) (Nat.zero_mul _)).trans (Nat.zero_add _)
  · refine (Pipeline.Window.rect_emb_val ..).trans ?_
    rw [show win0_4.index t = ![0, 0, t.val] from e]
    exact (congrArg (· + _) (Nat.zero_mul _)).trans (Nat.zero_add _)
  · refine (Pipeline.Window.rect_emb_val ..).trans ?_
    rw [show win0_4.index t = ![0, 0, t.val] from e]
    rfl

end Cert.Proof.KernelIdeal
end
-- ==== Proof.RI.Value.lean ====
/-
  The reference's array at a place: its code table, the norms, the products and the masked distance.
-/
module

public import proofs.«01_k».proof.Proof.Gen.ReferenceIdeal.Run
public import Idealize.ShloMosaic.Lib.Pointwise

@[expose] public section

set_option maxRecDepth 8192
set_option maxHeartbeats 400000

noncomputable section

namespace Cert.Proof.RI

open Cert.ReferenceIdeal Cert.ReferenceIdeal.Gen
open Idealize.ShloMosaic Idealize.ShloMosaic.TcCoe Idealize.ShloMosaic.Tactic
open Idealize.ShloMosaic.Pointwise

/-- The gathered words by node, candidate and word. -/
def words (A : S131072x64.Idx → BitVec 32) : S2048x64x64.Idx → BitVec 32 :=
  (shapeCast _ (transpose S4x4x128x2x32x64 [0, 2, 1, 4, 3, 5] (shapeCast _ A shapeCasts_S131072x64_S4x128x4x32x2x64) transposes_S4x128x4x32x2x64_S4x4x128x2x32x64_0_2_1_4_3_5) shapeCasts_S4x4x128x2x32x64_S2048x64x64)

/-- The codes by node, candidate and dimension, each a byte with its sign. -/
def codes (W : S2048x64x64.Idx → BitVec 32) : S2000x56x192.Idx → BitVec 32 :=
  (shapeCast _ (Host.shrsi (Host.shli (broadcastInDim S2000x56x48x4 ![0, 1, 2, 3] bcast_S2000x56x48x1_S2000x56x48x4_0_1_2_3 (broadcastInDim S2000x56x48x1 ![0, 1, 2] bcast_S2000x56x48_S2000x56x48x1_0_1_2 (extractStridedSlice S2000x56x48 ![0, 0, 0] W slices_S2048x64x64_S2000x56x48_0_0_0))) (broadcastInDim S2000x56x48x4 ![3] bcast_S4_S2000x56x48x4_3 (subi (broadcastInDim S4 ![] bcast_S_S4 (constantI S_ 32 24#32)) (muli (broadcastInDim S4 ![] bcast_S_S4 (constantI S_ 32 8#32)) (iotaInDim S4 32 0))))) (broadcastInDim S2000x56x48x4 ![] bcast_S_S2000x56x48x4 (constantI S_ 32 24#32))) shapeCasts_S2000x56x48x4_S2000x56x192)

/-- The squared norms of the codes. -/
def norms (C : S2000x56x192.Idx → BitVec 32) : S2000x56.Idx → EReal :=
  Host.reduceAdd (F := Ideal) (mulf (sitofp (F := Ideal) .f32 C) (sitofp (F := Ideal) .f32 C)) (constant (F := Ideal) S_ .f32 0x00000000#32) reducesTo_S2000x56x192_S2000x56_d2 h_S_

/-- The products of every two candidates' codes. -/
def prods (C : S2000x56x192.Idx → BitVec 32) : S2000x56x56.Idx → EReal :=
  Host.dotGeneral (F := Ideal) dot_S2000x56x192_S2000x56x192_S2000x56x56_2_2_1_1_0_0 none (sitofp (F := Ideal) .bf16 C) (sitofp (F := Ideal) .bf16 C)

/-- The masked distances of the norms `N`, the products `P`, the scales `S` and the counts `U`, `W`. -/
def dists (N : S2000x56.Idx → EReal) (P : S2000x56x56.Idx → EReal) (S : S56x2048.Idx → EReal) (U W : S2000.Idx → BitVec 32) : S2000x56x56.Idx → EReal :=
  select (andi (andi (broadcastInDim S2000x56x56 ![0, 1, 2] bcast_S2000x56x1_S2000x56x56_0_1_2 (broadcastInDim S2000x56x1 ![0, 1] bcast_S2000x56_S2000x56x1_0_1 (cmpi .slt (broadcastInDim S2000x56 ![0, 1] bcast_S1x56_S2000x56_0_1 (broadcastInDim S1x56 ![1] bcast_S56_S1x56_1 (iotaInDim S56 32 0))) (broadcastInDim S2000x56 ![0, 1] bcast_S2000x1_S2000x56_0_1 (broadcastInDim S2000x1 ![0] bcast_S2000_S2000x1_0 U))))) (broadcastInDim S2000x56x56 ![0, 1, 2] bcast_S2000x1x56_S2000x56x56_0_1_2 (broadcastInDim S2000x1x56 ![0, 2] bcast_S2000x56_S2000x1x56_0_2 (cmpi .slt (broadcastInDim S2000x56 ![0, 1] bcast_S1x56_S2000x56_0_1 (broadcastInDim S1x56 ![1] bcast_S56_S1x56_1 (iotaInDim S56 32 0))) (broadcastInDim S2000x56 ![0, 1] bcast_S2000x1_S2000x56_0_1 (broadcastInDim S2000x1 ![0] bcast_S2000_S2000x1_0 U)))))) (ori (broadcastInDim S2000x56x56 ![0, 1, 2] bcast_S2000x56x1_S2000x56x56_0_1_2 (broadcastInDim S2000x56x1 ![0, 1] bcast_S2000x56_S2000x56x1_0_1 (cmpi .slt (broadcastInDim S2000x56 ![0, 1] bcast_S1x56_S2000x56_0_1 (broadcastInDim S1x56 ![1] bcast_S56_S1x56_1 (iotaInDim S56 32 0))) (broadcastInDim S2000x56 ![0, 1] bcast_S2000x1_S2000x56_0_1 (broadcastInDim S2000x1 ![0] bcast_S2000_S2000x1_0 W))))) (broadcastInDim S2000x56x56 ![0, 1, 2] bcast_S2000x1x56_S2000x56x56_0_1_2 (broadcastInDim S2000x1x56 ![0, 2] bcast_S2000x56_S2000x1x56_0_2 (cmpi .slt (broadcastInDim S2000x56 ![0, 1] bcast_S1x56_S2000x56_0_1 (broadcastInDim S1x56 ![1] bcast_S56_S1x56_1 (iotaInDim S56 32 0))) (broadcastInDim S2000x56 ![0, 1] bcast_S2000x1_S2000x56_0_1 (broadcastInDim S2000x1 ![0] bcast_S2000_S2000x1_0 W))))))) (subf (F := Ideal) (addf (F := Ideal) (broadcastInDim S2000x56x56 ![0, 1, 2] bcast_S2000x56x1_S2000x56x56_0_1_2 (broadcastInDim S2000x56x1 ![0, 1] bcast_S2000x56_S2000x56x1_0_1 (mulf (F := Ideal) (mulf (F := Ideal) (extractStridedSlice S2000x56 ![0, 0] (transpose S2048x56 [1, 0] S transposes_S56x2048_S2048x56_1_0) slices_S2048x56_S2000x56_0_0) (extractStridedSlice S2000x56 ![0, 0] (transpose S2048x56 [1, 0] S transposes_S56x2048_S2048x56_1_0) slices_S2048x56_S2000x56_0_0)) N))) (broadcastInDim S2000x56x56 ![0, 1, 2] bcast_S2000x1x56_S2000x56x56_0_1_2 (broadcastInDim S2000x1x56 ![0, 2] bcast_S2000x56_S2000x1x56_0_2 (mulf (F := Ideal) (mulf (F := Ideal) (extractStridedSlice S2000x56 ![0, 0] (transpose S2048x56 [1, 0] S transposes_S56x2048_S2048x56_1_0) slices_S2048x56_S2000x56_0_0) (extractStridedSlice S2000x56 ![0, 0] (transpose S2048x56 [1, 0] S transposes_S56x2048_S2048x56_1_0) slices_S2048x56_S2000x56_0_0)) N)))) (mulf (F := Ideal) (mulf (F := Ideal) (broadcastInDim S2000x56x56 ![0, 1, 2] bcast_S2000x56x1_S2000x56x56_0_1_2 (broadcastInDim S2000x56x1 ![0, 1] bcast_S2000x56_S2000x56x1_0_1 (mulf (F := Ideal) (broadcastInDim S2000x56 ![] bcast_S_S2000x56 (constant (F := Ideal) S_ .f32 0x40000000#32)) (extractStridedSlice S2000x56 ![0, 0] (transpose S2048x56 [1, 0] S transposes_S56x2048_S2048x56_1_0) slices_S2048x56_S2000x56_0_0)))) (broadcastInDim S2000x56x56 ![0, 1, 2] bcast_S2000x1x56_S2000x56x56_0_1_2 (broadcastInDim S2000x1x56 ![0, 2] bcast_S2000x56_S2000x1x56_0_2 (extractStridedSlice S2000x56 ![0, 0] (transpose S2048x56 [1, 0] S transposes_S56x2048_S2048x56_1_0) slices_S2048x56_S2000x56_0_0)))) P)) (broadcastInDim S2000x56x56 ![] bcast_S_S2000x56x56 (id (constant (F := Ideal) S_ .f32 0xBF800000#32)))

theorem res_eq (m : (ℓ : Loc nD τ sig) → Buf (Elt Ideal) ℓ) (c : Dev nD) :
    (Cert.ReferenceIdeal.Value.res_main_v61 m c : S2000x56x56.Idx → EReal) =
      dists (norms (codes (words (m ((c.tc : Thread nD τ).loc main_arg0))))) (prods (codes (words (m ((c.tc : Thread nD τ).loc main_arg0)))))
        (m ((c.tc : Thread nD τ).loc main_arg1)) (m ((c.tc : Thread nD τ).loc main_arg2)) (m ((c.tc : Thread nD τ).loc main_arg3)) := rfl

theorem words_at (A : S131072x64.Idx → BitVec 32) (b : Fin 2048) (i k : Fin 64) :
    words A (ix3 b i k) = A (ix2 (⟨((((b.val / 512) * 128 + b.val % 128) * 4 + b.val / 128 % 4) * 32 + i.val % 32) * 2 + i.val / 32, by omega⟩ : Fin 131072) k) := by
  pointwise [words]
  refine congrArg (fun r => A (ix2 r k)) (Fin.ext ?_)
  show b.val / 512 * 32768 + b.val % 128 * 256 + b.val / 128 % 4 * 64 + i.val % 32 * 2 + i.val / 32
    = ((((b.val / 512) * 128 + b.val % 128) * 4 + b.val / 128 % 4) * 32 + i.val % 32) * 2 + i.val / 32
  omega

/-- Shifting a word left by `24 − 8k` and back by 24 leaves byte `k` with its sign. -/
theorem byte_sign (w : BitVec 32) (k : ℕ) (hk : k < 4) :
    (IntOp.shrsi ArithUnit.host (IntOp.shli ArithUnit.host w (IntOp.subi (24#32) (IntOp.muli (8#32) (BitVec.ofNat 32 k)))) 24#32).toInt
      = (w.extractLsb' (8 * k) 8).toInt := by
  have e : ∀ n : ℕ, n < 32 → IntOp.shrsi ArithUnit.host (IntOp.shli ArithUnit.host w (BitVec.ofNat 32 n)) 24#32 = (w <<< n).sshiftRight 24 := by
    intro n hn
    have hm : (BitVec.ofNat 32 n).toNat = n := by rw [BitVec.toNat_ofNat]; exact Nat.mod_eq_of_lt (by omega)
    unfold IntOp.shrsi IntOp.shli
    rw [hm, if_pos hn, if_pos (by decide)]
    exact congrArg (fun k : ℕ => (w <<< k).sshiftRight 24) hm
  have f : IntOp.subi (24#32) (IntOp.muli (8#32) (BitVec.ofNat 32 k)) = BitVec.ofNat 32 (24 - 8 * k) := by
    have h : k = 0 ∨ k = 1 ∨ k = 2 ∨ k = 3 := by omega
    rcases h with rfl | rfl | rfl | rfl <;> rfl
  rw [f, e _ (by omega), BitVec.toInt_sshiftRight, Int.shiftRight_eq_div_pow, BitVec.toInt_eq_toNat_cond, BitVec.toInt_eq_toNat_cond,
    BitVec.extractLsb'_toNat, BitVec.toNat_shiftLeft, Nat.shiftLeft_eq, Nat.shiftRight_eq_div_pow]
  have hw := w.isLt
  have h : k = 0 ∨ k = 1 ∨ k = 2 ∨ k = 3 := by omega
  rcases h with rfl | rfl | rfl | rfl
  all_goals
    norm_num
    generalize w.toNat = n at *
    split_ifs <;> omega

theorem codes_at (W : S2048x64x64.Idx → BitVec 32) (b : Fin 2000) (i : Fin 56) (d : Fin 192) :
    (codes W (ix3 b i d)).toInt = ((W (ix3 (⟨b.val, by omega⟩ : Fin 2048) (⟨i.val, by omega⟩ : Fin 64) (⟨d.val / 4, by omega⟩ : Fin 64))).extractLsb' (8 * (d.val % 4)) 8).toInt := by
  rw [← byte_sign _ _ (Nat.mod_lt _ (by decide))]
  refine congrArg BitVec.toInt ?_
  pointwise [codes]

theorem norms_at (C : S2000x56x192.Idx → BitVec 32) (b : Fin 2000) (i : Fin 56) :
    norms C (ix2 b i) = ∑ d : Fin 192, (((C (ix3 b i d)).toInt : ℝ) : EReal) * (((C (ix3 b i d)).toInt : ℝ) : EReal) := by
  pointwise [norms]
  rfl

theorem prods_at (C : S2000x56x192.Idx → BitVec 32) (b : Fin 2000) (i j : Fin 56) :
    prods C (ix3 b i j) = ∑ d : Fin 192, (((C (ix3 b i d)).toInt : ℝ) : EReal) * (((C (ix3 b j d)).toInt : ℝ) : EReal) := by
  pointwise [prods]
  rfl

/-- The masked distance from its parts. -/
def dist (a b c d : BitVec 1) (qi qj si sj g : EReal) : EReal :=
  Scalar.select (IntOp.andi (IntOp.andi a b) (IntOp.ori c d)) (qi + qj - Ideal.ofBits FTy.f32 0x40000000#32 * si * sj * g) (Ideal.ofBits FTy.f32 0xBF800000#32)

theorem dists_at (N : S2000x56.Idx → EReal) (P : S2000x56x56.Idx → EReal) (S : S56x2048.Idx → EReal) (U W : S2000.Idx → BitVec 32) (i j : Fin 56) (b : Fin 2000) :
    dists N P S U W (ix3 b i j) =
      dist (IntOp.cmpi .slt (BitVec.ofNat 32 i.val) (U (ix1 b))) (IntOp.cmpi .slt (BitVec.ofNat 32 j.val) (U (ix1 b)))
        (IntOp.cmpi .slt (BitVec.ofNat 32 i.val) (W (ix1 b))) (IntOp.cmpi .slt (BitVec.ofNat 32 j.val) (W (ix1 b)))
        (S (ix2 i (⟨b.val, by omega⟩ : Fin 2048)) * S (ix2 i (⟨b.val, by omega⟩ : Fin 2048)) * N (ix2 b i))
        (S (ix2 j (⟨b.val, by omega⟩ : Fin 2048)) * S (ix2 j (⟨b.val, by omega⟩ : Fin 2048)) * N (ix2 b j))
        (S (ix2 i (⟨b.val, by omega⟩ : Fin 2048))) (S (ix2 j (⟨b.val, by omega⟩ : Fin 2048))) (P (ix3 b i j)) := by
  pointwise [dists, dist]
  rfl

end Cert.Proof.RI
end
-- ==== Proof.KI.Value6.lean ====
/-
  What the kernel's body leaves at a place is the reference's masked distance there.
-/
module

public import proofs.«01_k».proof.Proof.KI.Value5
public import proofs.«01_k».proof.Proof.RI.Value

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.ShloMosaic.Pointwise

variable (m : (ℓ : Loc nD τ sig) → Buf (Elt Ideal) ℓ) (c : Dev nD)

theorem two_eq : Ideal.ofBits FTy.f32 0x40000000#32 = ((2 : ℝ) : EReal) := by
  simp [Ideal.ofBits, Ideal.ieee, -EReal.coe_mul]; norm_num

/-- A code is 2 for a new candidate within the count, 1 for an old one, 0 past the count: the product of two is at least 2
    exactly if both are within the count and one is new. -/
theorem keep_eq (a b c d : BitVec 1) :
    FloatOps.cmpf (F := Ideal) (φ := .f32) .oge
      (Scalar.select a (Scalar.select c (Ideal.ofBits FTy.f32 0x40000000#32) 1) 0 * Scalar.select b (Scalar.select d (Ideal.ofBits FTy.f32 0x40000000#32) 1) 0)
      (Ideal.ofBits FTy.f32 0x40000000#32) = IntOp.andi (IntOp.andi a b) (IntOp.ori c d) := by
  have hb : ∀ x : BitVec 1, x = 0#1 ∨ x = 1#1 := by decide
  have h22 : (2 : ℝ) ≤ 2 * 2 := by norm_num
  have h01 : ¬ (2 : ℝ) ≤ 0 := by norm_num
  have h11 : ¬ (2 : ℝ) ≤ 1 := by norm_num
  rw [two_eq, ← EReal.coe_one, ← EReal.coe_zero]
  show Ideal.cmp .oge _ _ = _
  rcases hb a with rfl | rfl <;> rcases hb b with rfl | rfl <;> rcases hb c with rfl | rfl <;> rcases hb d with rfl | rfl <;>
    simp [Scalar.select, Ideal.cmp, IntOp.andi, IntOp.ori, ← EReal.coe_mul, EReal.coe_le_coe_iff, h22, h01, h11, -EReal.coe_one, -EReal.coe_zero]

/-- The reference's code, of the words of an argument. -/
def rcode (A : Cert.ReferenceIdeal.S131072x64.Idx → BitVec 32) (b i : ℕ) (d : Fin 192) : EReal :=
  ((((A (ix2 (⟨(((((b / 512) * 128 + b % 128) * 4 + b / 128 % 4) * 32 + i % 32) * 2 + i / 32) % 131072, Nat.mod_lt _ (by decide)⟩ : Fin 131072) (⟨d.val / 4, by omega⟩ : Fin 64))).extractLsb' (8 * (d.val % 4)) 8).toInt : ℝ) : EReal)

theorem ref_code (A : Cert.ReferenceIdeal.S131072x64.Idx → BitVec 32) (b : Fin 2000) (i : Fin 56) (d : Fin 192) :
    (((Cert.Proof.RI.codes (Cert.Proof.RI.words A) (ix3 b i d)).toInt : ℝ) : EReal) = rcode A b.val i.val d := by
  rw [Cert.Proof.RI.codes_at, Cert.Proof.RI.words_at]
  unfold rcode
  have e : ((((b.val / 512) * 128 + b.val % 128) * 4 + b.val / 128 % 4) * 32 + i.val % 32) * 2 + i.val / 32 =
    (((((b.val / 512) * 128 + b.val % 128) * 4 + b.val / 128 % 4) * 32 + i.val % 32) * 2 + i.val / 32) % 131072 := by omega
  refine congrArg (fun r => ((((A (ix2 r (⟨d.val / 4, by omega⟩ : Fin 64))).extractLsb' (8 * (d.val % 4)) 8).toInt : ℝ) : EReal)) (Fin.ext e)

theorem row_eq (t a l u v : ℕ) (ht : t < 4) (ha : a < 4) (hl : l < 128) (hu : u < 2) (hv : v < 32) :
    2 * ((t * 16384 + (128 * l + (a * 32 + v))) % 65536) + u = ((((t * 128 + l) * 4 + a) * 32 + v) * 2 + u) % 131072 := by omega

/-- The kernel's code of candidate `i` of node `512 t + 128 a + l`. -/
theorem ker_code (t : Fin cfg0.N) (a i l p : ℕ) (ha : a < 4) (hi : i < 64) (hl : l < 128) (hp : p = i / 32 * 128 + a * 32 + i % 32) (hp' : p < 256) (d : Fin 192) :
    code (wblk (in0 m c t) l) ⟨p, hp'⟩ d = rcode (m ((c.tc : Thread nD τ).loc main_arg0)) (512 * t.val + 128 * a + l) i d := by
  have ht : t.val < 4 := t.isLt
  unfold code wblk byteOf
  rw [in0_at, V2_at]
  unfold rcode
  simp only [ix2_0, ix2_1]
  have hr : 2 * ((t.val * 16384 + (128 * l + p % 128) % 16384) % 65536) + (p / 128 * 64 + d.val / 4) / 64 =
    ((((((512 * t.val + 128 * a + l) / 512) * 128 + (512 * t.val + 128 * a + l) % 128) * 4 + (512 * t.val + 128 * a + l) / 128 % 4) * 32 + i % 32) * 2 + i / 32) % 131072 := by
    have := d.isLt
    have h1 : (512 * t.val + 128 * a + l) / 512 = t.val := by omega
    have h2 : (512 * t.val + 128 * a + l) % 128 = l := by omega
    have h3 : (512 * t.val + 128 * a + l) / 128 % 4 = a := by omega
    rw [h1, h2, h3]
    have h4 : p % 128 = a * 32 + i % 32 := by omega
    have h5 : p / 128 = i / 32 := by omega
    have h6 : (i / 32 * 64 + d.val / 4) / 64 = i / 32 := by omega
    have h7 : (128 * l + (a * 32 + i % 32)) % 16384 = 128 * l + (a * 32 + i % 32) := by omega
    rw [h4, h5, h6, h7]
    exact row_eq t.val a l (i / 32) (i % 32) ht ha hl (by omega) (by omega)
  have h5 : p / 128 = i / 32 := by omega
  have hk : (p / 128 * 64 + d.val / 4) % 64 = d.val / 4 := by have := d.isLt; omega
  simp only [hr, hk]

theorem tile_eq (t : Fin cfg0.N) (a i j l : ℕ) (ha : a < 4) (hi : i < 56) (hj : j < 56) (hl : l < 128) :
    tile (wblk (in0 m c t) l) (i / 32) (j / 32) (i % 32) (32 * a + j % 32)
      = ∑ d : Fin 192, rcode (m ((c.tc : Thread nD τ).loc main_arg0)) (512 * t.val + 128 * a + l) i d
          * rcode (m ((c.tc : Thread nD τ).loc main_arg0)) (512 * t.val + 128 * a + l) j d := by
  unfold tile dotp
  refine Finset.sum_congr rfl fun d _ => ?_
  rw [ker_code m c t a i l _ ha (by omega) hl (by omega), ker_code m c t a j l _ ha (by omega) hl (by omega)]

/-- The scale of candidate `i` of node `b`. -/
def scale (b : Fin 2000) (i : Fin 56) : EReal := m ((c.tc : Thread nD τ).loc main_arg1) (ix2 i (⟨b.val, by omega⟩ : Fin 2048))

/-- The scale, the scaled norm and the code the kernel keeps of candidate `i` of node `b`. -/
theorem G9_eq (t : Fin cfg0.N) (q : Fin 512) (b : Fin 2000) (h : b.val = t.val * 512 + q.val) (i : Fin 56) :
    G9 (in1 m c t) (pl (q.val / 128) i.val (q.val % 128)) = m ((c.tc : Thread nD τ).loc main_arg1) (ix2 i (⟨b.val, by omega⟩ : Fin 2048)) := by
  have ht : t.val < 4 := t.isLt
  unfold G9 pl
  rw [in1_at]
  refine congrArg (m ((c.tc : Thread nD τ).loc main_arg1)) (congrArg₂ ix2 (Fin.ext ?_) (Fin.ext ?_))
  · show i.val % 56 = i.val
    omega
  · show (t.val * 512 + (128 * (q.val / 128 % 4) + q.val % 128 % 128) % 512) % 2048 = b.val
    omega

theorem G11_eq (t : Fin cfg0.N) (q : Fin 512) (b : Fin 2000) (h : b.val = t.val * 512 + q.val) (i : Fin 56) :
    G11 (in2 m c t) (in3 m c t) (pl (q.val / 128) i.val (q.val % 128)) =
      codeOf i.val (m ((c.tc : Thread nD τ).loc main_arg2) (ix1 b)) (m ((c.tc : Thread nD τ).loc main_arg3) (ix1 b)) := by
  have ht : t.val < 4 := t.isLt
  have hb := b.isLt
  have e : (t.val * 512 + (128 * (q.val / 128 % 4) + q.val % 128 % 128) % 512) % 2048 = b.val := by omega
  have ei : i.val % 56 = i.val := by omega
  unfold G11 pl
  simp only [ix3_0, ix3_1, ix3_2]
  rw [in2_at, in3_at]
  simp only [e, ei]
  rw [V3_at m c _ _ hb, V4_at m c _ _ hb]

theorem GP_eq (t : Fin cfg0.N) (q : Fin 512) (b : Fin 2000) (h : b.val = t.val * 512 + q.val) (i j : Fin 56) :
    GP (in0 m c t) (q.val / 128) i.val j.val (q.val % 128) =
      ∑ d : Fin 192, rcode (m ((c.tc : Thread nD τ).loc main_arg0)) b.val i.val d * rcode (m ((c.tc : Thread nD τ).loc main_arg0)) b.val j.val d := by
  have hb : b.val = 512 * t.val + 128 * (q.val / 128) + q.val % 128 := by omega
  rw [hb]
  exact tile_eq m c t _ _ _ _ (by omega) i.isLt j.isLt (by omega)

theorem GN_eq (t : Fin cfg0.N) (a i l : ℕ) (ha : a < 4) (hi : i < 56) (hl : l < 128) (x : S2x128x128.Idx) (h0 : (x 0).val = i / 32) (h1 : (x 1).val = l)
    (h2 : (x 2).val = 32 * a + i % 32) : GN (in0 m c t) x = ∑ d : Fin 192, rcode (m ((c.tc : Thread nD τ).loc main_arg0)) (512 * t.val + 128 * a + l) i d
          * rcode (m ((c.tc : Thread nD τ).loc main_arg0)) (512 * t.val + 128 * a + l) i d := by
  unfold GN
  rw [h0, h1, h2, show (32 * a + i % 32) % 32 = i % 32 by omega]
  exact tile_eq m c t a i i l ha hi hi hl

theorem G10_eq (t : Fin cfg0.N) (q : Fin 512) (b : Fin 2000) (h : b.val = t.val * 512 + q.val) (i : Fin 56) :
    G10 (in1 m c t) (GN (in0 m c t)) (pl (q.val / 128) i.val (q.val % 128)) =
      scale m c b i * scale m c b i
        * ∑ d : Fin 192, rcode (m ((c.tc : Thread nD τ).loc main_arg0)) b.val i.val d * rcode (m ((c.tc : Thread nD τ).loc main_arg0)) b.val i.val d := by
  have hb : b.val = 512 * t.val + 128 * (q.val / 128) + q.val % 128 := by omega
  have hi := i.isLt
  have hq := q.isLt
  unfold G10
  rw [G9_eq m c t q b h i]
  show scale m c b i * scale m c b i * _ = _
  refine congrArg _ ?_
  rw [hb]
  refine GN_eq m c t _ _ _ (by omega) i.isLt (by omega) _ ?_ ?_ ?_
  · show i.val % 56 / 32 % 2 = i.val / 32
    omega
  · show q.val % 128 % 128 = q.val % 128
    omega
  · show (32 * (q.val / 128 % 4) + i.val % 56 % 32) % 128 = 32 * (q.val / 128) + i.val % 32
    omega

theorem outAt_eq (t : Fin cfg0.N) (y : S56x56x512.Idx) (z : S56x56x2000.Idx) (h0 : (z 0).val = (y 0).val) (h1 : (z 1).val = (y 1).val)
      (h2 : (z 2).val = t.val * 512 + (y 2).val) : outAt m c t y =
      Cert.Proof.RI.dists (Cert.Proof.RI.norms (Cert.Proof.RI.codes (Cert.Proof.RI.words (m ((c.tc : Thread nD τ).loc main_arg0)))))
        (Cert.Proof.RI.prods (Cert.Proof.RI.codes (Cert.Proof.RI.words (m ((c.tc : Thread nD τ).loc main_arg0)))))
        (m ((c.tc : Thread nD τ).loc main_arg1)) (m ((c.tc : Thread nD τ).loc main_arg2)) (m ((c.tc : Thread nD τ).loc main_arg3)) (ix3 (z 2) (z 0) (z 1)) := by
  obtain ⟨i, j, b, rfl⟩ : ∃ (i j : Fin 56) (b : Fin 2000), z = ix3 i j b := ⟨z 0, z 1, z 2, eq_ix3 z⟩
  obtain ⟨i', j', q, rfl⟩ : ∃ (i j : Fin 56) (b : Fin 512), y = ix3 i j b := ⟨y 0, y 1, y 2, eq_ix3 y⟩
  obtain rfl : i' = i := Fin.ext h0.symm
  obtain rfl : j' = j := Fin.ext h1.symm
  have h2 : b.val = t.val * 512 + q.val := h2
  have ht : t.val < 4 := t.isLt
  have hb : b.val = 512 * t.val + 128 * (q.val / 128) + q.val % 128 := by omega
  show _ = Cert.Proof.RI.dists _ _ _ _ _ (ix3 b i' j')
  rw [Cert.Proof.RI.dists_at, Cert.Proof.RI.norms_at, Cert.Proof.RI.norms_at, Cert.Proof.RI.prods_at]
  simp only [ref_code]
  unfold outAt
  rw [OUT_at]
  show dstOf (G9 (in1 m c t)) (G10 (in1 m c t) (GN (in0 m c t))) (G11 (in2 m c t) (in3 m c t)) (q.val / 128) i'.val j'.val (q.val % 128)
    (GP (in0 m c t) (q.val / 128) i'.val j'.val (q.val % 128)) = _
  unfold dstOf dst
  rw [G9_eq m c t q b h2, G9_eq m c t q b h2, G10_eq m c t q b h2, G10_eq m c t q b h2, G11_eq m c t q b h2, G11_eq m c t q b h2, GP_eq m c t q b h2]
  unfold codeOf
  rw [keep_eq]
  rfl

end Cert.Proof.KernelIdeal
end
-- ==== Proof.Algebraic.lean ====
/-
  The idealized kernel and the idealized reference, from equal arguments, end with equal arrays.
-/
module

public import proofs.«01_k».proof.Defs
public import proofs.«01_k».proof.Proof.KI.Value6

@[expose] public section

set_option maxRecDepth 8192
set_option maxHeartbeats 400000

noncomputable section

namespace Cert.Proof

open Idealize.ShloMosaic Idealize.ShloMosaic.TcCoe Idealize.ShloMosaic.Tactic Idealize.ShloMosaic.Pointwise Idealize.SL.Sem

namespace KernelIdeal

open Cert.KernelIdeal Cert.KernelIdeal.Gen

/-- The reference's function of the four arguments. -/
def resOf (A : S131072x64.Idx → BitVec 32) (S : S56x2048.Idx → EReal) (U W : S2000.Idx → BitVec 32) : S2000x56x56.Idx → EReal :=
  Cert.Proof.RI.dists (Cert.Proof.RI.norms (Cert.Proof.RI.codes (Cert.Proof.RI.words A)))
    (Cert.Proof.RI.prods (Cert.Proof.RI.codes (Cert.Proof.RI.words A))) S U W

/-- The array the kernel leaves. -/
def res (m : (ℓ : Loc nD τ sig) → Buf (Elt Ideal) ℓ) (c : Dev nD) : S2000x56x56.Idx → EReal :=
  resOf (m ((c.tc : Thread nD τ).loc main_arg0)) (m ((c.tc : Thread nD τ).loc main_arg1))
    (m ((c.tc : Thread nD τ).loc main_arg2)) (m ((c.tc : Thread nD τ).loc main_arg3))

/-- The array the region leaves at a place is the reference's at the place with the node first. -/
theorem arr_res (m : (ℓ : Loc nD τ sig) → Buf (Elt Ideal) ℓ) (c : Dev nD) :
    ((dats m 0 c).arrAt 4 cfg0.N : S56x56x2000.Idx → EReal) = fun z => res m c (ix3 (z 2) (z 0) (z 1)) :=
  arr_eq m c _ fun t y z h0 h1 h2 => outAt_eq m c t y z h0 h1 h2

/-- The transposition after the region leaves the reference's array. -/
theorem tail_res (m : (ℓ : Loc nD τ sig) → Buf (Elt Ideal) ℓ) (c : Dev nD) :
    (Pipeline.afterTail₀ cfgs (dats m) 0 (V0 m) [hostOps1] c main_v6 : S2000x56x56.Idx → EReal) = res m c := by
  have h : (Pipeline.afterTail₀ cfgs (dats m) 0 (V0 m) [hostOps1] c main_v6 : S2000x56x56.Idx → EReal)
      = transpose S2000x56x56 [2, 0, 1] ((dats m 0 c).arrAt 4 cfg0.N : S56x56x2000.Idx → EReal) transposes_S56x56x2000_S2000x56x56_2_0_1 := by
    unfold Pipeline.afterTail₀
    after_results
    exact congrArg (fun X : S56x56x2000.Idx → EReal => transpose S2000x56x56 [2, 0, 1] X transposes_S56x56x2000_S2000x56x56_2_0_1)
      (Pipeline.withArrays_arr (cfgs 0).spec launch0.win.arr_inj c (V0 m c) (fun w => (dats m 0 c).arrAt w (cfgs 0).N) 4)
  rw [h, arr_res]
  funext z
  obtain ⟨b, i, j, rfl⟩ : ∃ (b : Fin 2000) (i j : Fin 56), z = ix3 b i j := ⟨z 0, z 1, z 2, eq_ix3 z⟩
  pointwise []

theorem value_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v6 (Pipeline.mem_restRefs_of main_v6 (by decide) (by decide))).trans (tail_res m c),
      ((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩) (run_main m ρ)

end KernelIdeal

theorem algebraic : Cert.algebraic_KernelIdeal_ReferenceIdeal (hKernelIdeal := Cert.KernelIdeal.Gen.facts) (hReferenceIdeal := Cert.ReferenceIdeal.Gen.facts) := by
  intro m g m' g' _ h
  refine ⟨fun c => KernelIdeal.res m c, KernelIdeal.value_main m g, ?_⟩
  refine (θ_run _ _ _).mono (fun r hr c => ⟨(hr c).1.trans ?_, (hr c).2⟩) (Cert.ReferenceIdeal.Value.run (F := Ideal) m' g')
  refine (RI.res_eq m' c).trans ?_
  obtain ⟨h0, h1, h2, h3⟩ := h c
  exact congr (congr (congr (congrArg KernelIdeal.resOf h0) h1) h2) h3

end Cert.Proof
end
-- ==== Proof.lean ====
/-
  The proof of `Cert.Claim` (proofs.«01_k».proof.Defs). The runs of the two kernel programs are in Proof/K/ and Proof/KI/.
-/
module

public import proofs.«01_k».proof.Defs
public import proofs.«01_k».proof.Proof.K.Frame
public import proofs.«01_k».proof.Proof.KI.Frame
public import proofs.«01_k».proof.Proof.RI.Frame
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, by
  refine ⟨?_, ?_, ?_, ?_, ?_⟩
  · exact fun m g _ => Cert.Proof.Kernel.frame_main (F := Bits) m g
  · exact fun m g _ => Cert.Proof.KernelIdeal.frame_main (F := Ideal) m g
  · exact fun m g _ => Cert.Proof.RI.frame_main (F := Ideal) m g
  · trivial
  · exact algebraic⟩

end Cert.Proof

end
